-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_k" .f32 0x3CCCCCCD#32 ((40⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x512x64 : Shape := ⟨3, ![4, 512, 64]⟩
abbrev S26x128 : Shape := ⟨2, ![26, 128]⟩
abbrev S26 : Shape := ⟨1, ![26]⟩
abbrev S48x172 : Shape := ⟨2, ![48, 172]⟩
abbrev S48 : Shape := ⟨1, ![48]⟩
abbrev S_ : Shape := ⟨0, ![]⟩

class Facts : Prop where
  bcast_S_S4x512x64 : S_.BroadcastsInDim S4x512x64 (![] : Fin 0 → Fin S4x512x64.rank)
  reducesTo_S4x512x64_S_d0_1_2 : S4x512x64.ReducesTo [0, 1, 2] S_
  h_S_ : 0 < S_.numel
  bcast_S_S26x128 : S_.BroadcastsInDim S26x128 (![] : Fin 0 → Fin S26x128.rank)
  reducesTo_S26x128_S_d0_1 : S26x128.ReducesTo [0, 1] S_
  bcast_S_S26 : S_.BroadcastsInDim S26 (![] : Fin 0 → Fin S26.rank)
  reducesTo_S26_S_d0 : S26.ReducesTo [0] S_

variable [Facts]

def fn {F : FTy → Type} [FloatOps F] (main_arg0 : FVec F S4x512x64 .f32) (main_arg1 : FVec F S26x128 .f32) (main_arg2 : FVec F S26 .f32) (main_arg3 : FVec F S48x172 .f32) (main_arg4 : FVec F S48 .f32) : IVec S_ 1 :=
  let main_v0 : FVec F S4x512x64 .f32 := Host.absf main_arg0
  let main_cst : FVec F S_ .f32 := constant S_ .f32 0x7F800000#32
  let main_v1 : FVec F S4x512x64 .f32 := broadcastInDim S4x512x64 ![] bcast_S_S4x512x64 main_cst
  let main_v2 : IVec S4x512x64 1 := cmpf .olt main_v0 main_v1
  let main_c : IVec S_ 1 := constantI S_ 1 1#1
  let main_v3 : IVec S_ 1 := (fun x v => Host.reduce IntOp.andi x v reducesTo_S4x512x64_S_d0_1_2 h_S_) main_v2 main_c
  let main_v4 : FVec F S26x128 .f32 := Host.absf main_arg1
  let main_cst_0 : FVec F S_ .f32 := constant S_ .f32 0x7F800000#32
  let main_v5 : FVec F S26x128 .f32 := broadcastInDim S26x128 ![] bcast_S_S26x128 main_cst_0
  let main_v6 : IVec S26x128 1 := cmpf .olt main_v4 main_v5
  let main_c_1 : IVec S_ 1 := constantI S_ 1 1#1
  let main_v7 : IVec S_ 1 := (fun x v => Host.reduce IntOp.andi x v reducesTo_S26x128_S_d0_1 h_S_) main_v6 main_c_1
  let main_v8 : IVec S_ 1 := andi main_v3 main_v7
  let main_v9 : FVec F S26 .f32 := Host.absf main_arg2
  let main_cst_2 : FVec F S_ .f32 := constant S_ .f32 0x7F800000#32
  let main_v10 : FVec F S26 .f32 := broadcastInDim S26 ![] bcast_S_S26 main_cst_2
  let main_v11 : IVec S26 1 := cmpf .olt main_v9 main_v10
  let main_c_3 : IVec S_ 1 := constantI S_ 1 1#1
  let main_v12 : IVec S_ 1 := (fun x v => Host.reduce IntOp.andi x v reducesTo_S26_S_d0 h_S_) main_v11 main_c_3
  let main_v13 : IVec S_ 1 := andi main_v8 main_v12
  main_v13
-- ==== Kernel.lean ====
abbrev S4x512x64 : Shape := ⟨3, ![4, 512, 64]⟩
abbrev S26x128 : Shape := ⟨2, ![26, 128]⟩
abbrev S26 : Shape := ⟨1, ![26]⟩
abbrev S48x172 : Shape := ⟨2, ![48, 172]⟩
abbrev S48 : Shape := ⟨1, ![48]⟩
abbrev S128x26 : Shape := ⟨2, ![128, 26]⟩
abbrev S1x26 : Shape := ⟨2, ![1, 26]⟩
abbrev S172x48 : Shape := ⟨2, ![172, 48]⟩
abbrev S1x48 : Shape := ⟨2, ![1, 48]⟩
abbrev S4x512x48 : Shape := ⟨3, ![4, 512, 48]⟩
abbrev S1x512x64 : Shape := ⟨3, ![1, 512, 64]⟩
abbrev S512x64 : Shape := ⟨2, ![512, 64]⟩
abbrev S64 : Shape := ⟨1, ![64]⟩
abbrev S1x64 : Shape := ⟨2, ![1, 64]⟩
abbrev S512x128 : Shape := ⟨2, ![512, 128]⟩
abbrev S2048x128 : Shape := ⟨2, ![2048, 128]⟩
abbrev S2048x26 : Shape := ⟨2, ![2048, 26]⟩
abbrev S2048x4 : Shape := ⟨2, ![2048, 4]⟩
abbrev S2048x22 : Shape := ⟨2, ![2048, 22]⟩
abbrev S1x4 : Shape := ⟨2, ![1, 4]⟩
abbrev S512x4 : Shape := ⟨2, ![512, 4]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S512x2048 : Shape := ⟨2, ![512, 2048]⟩
abbrev S511x2048 : Shape := ⟨2, ![511, 2048]⟩
abbrev S1x2048 : Shape := ⟨2, ![1, 2048]⟩
abbrev S512x1024 : Shape := ⟨2, ![512, 1024]⟩
abbrev S1x1024 : Shape := ⟨2, ![1, 1024]⟩
abbrev S512x22 : Shape := ⟨2, ![512, 22]⟩
abbrev S22x512 : Shape := ⟨2, ![22, 512]⟩
abbrev S2048x172 : Shape := ⟨2, ![2048, 172]⟩
abbrev S2048x48 : Shape := ⟨2, ![2048, 48]⟩

abbrev nBuf : Space → Nat
  | .hbm => 10
  | .vmem => 6
  | .smem => 0
  | _ => 0

abbrev bufTy : (tb : Table) → Fin (tcTables nBuf tb) → BufTy
  | .hbm, ⟨0, _⟩ => ⟨S4x512x64, .f32⟩
  | .hbm, ⟨1, _⟩ => ⟨S26x128, .f32⟩
  | .hbm, ⟨2, _⟩ => ⟨S26, .f32⟩
  | .hbm, ⟨3, _⟩ => ⟨S48x172, .f32⟩
  | .hbm, ⟨4, _⟩ => ⟨S48, .f32⟩
  | .hbm, ⟨5, _⟩ => ⟨S128x26, .f32⟩
  | .hbm, ⟨6, _⟩ => ⟨S1x26, .f32⟩
  | .hbm, ⟨7, _⟩ => ⟨S172x48, .f32⟩
  | .hbm, ⟨8, _⟩ => ⟨S1x48, .f32⟩
  | .hbm, ⟨9, _⟩ => ⟨S4x512x48, .f32⟩
  | .local _ .vmem, ⟨0, _⟩ => ⟨S4x512x64, .f32⟩
  | .local _ .vmem, ⟨1, _⟩ => ⟨S128x26, .f32⟩
  | .local _ .vmem, ⟨2, _⟩ => ⟨S1x26, .f32⟩
  | .local _ .vmem, ⟨3, _⟩ => ⟨S172x48, .f32⟩
  | .local _ .vmem, ⟨4, _⟩ => ⟨S1x48, .f32⟩
  | .local _ .vmem, ⟨5, _⟩ => ⟨S4x512x48, .f32⟩
  | _, _ => ⟨S4x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32_42 : BitVec 32 := 0#32
  let c512_i32 : BitVec 32 := 512#32
  let v107 : BitVec 32 := Scalar.addi c0_i32_42 c512_i32
  let c1_i32 : BitVec 32 := 1#32
  ⟨c0_i32_42, v107, c1_i32⟩
abbrev stage0_0 : Fin 1 → Memref sig .tc .vmem S4x512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x26 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x26 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S172x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "inv_k" => some ((40⁻¹ : ℝ) : EReal)
  | _ => none
-- ==== ReferenceIdeal.lean ====
abbrev S4x512x64 : Shape := ⟨3, ![4, 512, 64]⟩
abbrev S26x128 : Shape := ⟨2, ![26, 128]⟩
abbrev S26 : Shape := ⟨1, ![26]⟩
abbrev S48x172 : Shape := ⟨2, ![48, 172]⟩
abbrev S48 : Shape := ⟨1, ![48]⟩
abbrev S_ : Shape := ⟨0, ![]⟩
abbrev S4x64 : Shape := ⟨2, ![4, 64]⟩
abbrev S4x64x1 : Shape := ⟨3, ![4, 64, 1]⟩
abbrev S4x64x1x512 : Shape := ⟨4, ![4, 64, 1, 512]⟩
abbrev S4x64x512 : Shape := ⟨3, ![4, 64, 512]⟩
abbrev S4x512x128 : Shape := ⟨3, ![4, 512, 128]⟩
abbrev S4x512x26 : Shape := ⟨3, ![4, 512, 26]⟩
abbrev S1x1x26 : Shape := ⟨3, ![1, 1, 26]⟩
abbrev S4x512x4 : Shape := ⟨3, ![4, 512, 4]⟩
abbrev S4x512x22 : Shape := ⟨3, ![4, 512, 22]⟩
abbrev S4x512x1x4 : Shape := ⟨4, ![4, 512, 1, 4]⟩
abbrev S4x1x512x4 : Shape := ⟨4, ![4, 1, 512, 4]⟩
abbrev S4x512x512x4 : Shape := ⟨4, ![4, 512, 512, 4]⟩
abbrev S4x512x512 : Shape := ⟨3, ![4, 512, 512]⟩
abbrev S4x512x40 : Shape := ⟨3, ![4, 512, 40]⟩
abbrev S4 : Shape := ⟨1, ![4]⟩
abbrev S4x1x1 : Shape := ⟨3, ![4, 1, 1]⟩
abbrev S512 : Shape := ⟨1, ![512]⟩
abbrev S1x512x1 : Shape := ⟨3, ![1, 512, 1]⟩
abbrev S4x512x40x1 : Shape := ⟨4, ![4, 512, 40, 1]⟩
abbrev S4x512x40x3 : Shape := ⟨4, ![4, 512, 40, 3]⟩
abbrev S4x1x512x22 : Shape := ⟨4, ![4, 1, 512, 22]⟩
abbrev S4x1x512x512x22 : Shape := ⟨5, ![4, 1, 512, 512, 22]⟩
abbrev S4x512x512x22 : Shape := ⟨4, ![4, 512, 512, 22]⟩
abbrev S4x512x40x22 : Shape := ⟨4, ![4, 512, 40, 22]⟩
abbrev S4x512x172 : Shape := ⟨3, ![4, 512, 172]⟩
abbrev S4x512x48 : Shape := ⟨3, ![4, 512, 48]⟩
abbrev S1x1x48 : Shape := ⟨3, ![1, 1, 48]⟩

abbrev nBuf : Space → Nat
  | .hbm => 137
  | .vmem => 0
  | .smem => 0
  | _ => 0

abbrev hbmTy0_0 (i : Nat) : BufTy := match i % 128 with
  | 0 => ⟨S4x512x64, .f32⟩
  | 1 => ⟨S26x128, .f32⟩
  | 2 => ⟨S26, .f32⟩
  | 3 => ⟨S48x172, .f32⟩
  | 4 => ⟨S48, .f32⟩
  | 5 => ⟨S_, .f32⟩
  | 6 => ⟨S4x64, .f32⟩
  | 7 => ⟨S_, .f32⟩
  | 8 => ⟨S4x64, .f32⟩
  | 9 => ⟨S4x64, .f32⟩
  | 10 => ⟨S4x64x1, .f32⟩
  | 11 => ⟨S4x64x1x512, .f32⟩
  | 12 => ⟨S4x64x512, .f32⟩
  | 13 => ⟨S4x512x64, .f32⟩
  | 14 => ⟨S4x512x128, .f32⟩
  | 15 => ⟨S4x512x26, .f32⟩
  | 16 => ⟨S1x1x26, .f32⟩
  | 17 => ⟨S4x512x26, .f32⟩
  | 18 => ⟨S4x512x26, .f32⟩
  | 19 => ⟨S_, .f32⟩
  | 20 => ⟨S4x512x26, .f32⟩
  | 21 => ⟨S4x512x26, .f32⟩
  | 22 => ⟨S4x512x4, .f32⟩
  | 23 => ⟨S4x512x22, .f32⟩
  | 24 => ⟨S4x512x1x4, .f32⟩
  | 25 => ⟨S4x1x512x4, .f32⟩
  | 26 => ⟨S4x512x512x4, .f32⟩
  | 27 => ⟨S4x512x512x4, .f32⟩
  | 28 => ⟨S4x512x512x4, .f32⟩
  | 29 => ⟨S4x512x512x4, .f32⟩
  | 30 => ⟨S_, .f32⟩
  | 31 => ⟨S4x512x512, .f32⟩
  | 32 => ⟨S_, .f32⟩
  | 33 => ⟨S4x512x512, .f32⟩
  | 34 => ⟨S4x512x512, .i1⟩
  | 35 => ⟨S_, .f32⟩
  | 36 => ⟨S_, .f32⟩
  | 37 => ⟨S4x512x512, .f32⟩
  | 38 => ⟨S4x512x512, .f32⟩
  | 39 => ⟨S4x512x512, .f32⟩
  | 40 => ⟨S_, .f32⟩
  | 41 => ⟨S4x512x512, .f32⟩
  | 42 => ⟨S4x512x512, .i1⟩
  | 43 => ⟨S_, .f32⟩
  | 44 => ⟨S_, .f32⟩
  | 45 => ⟨S4x512x512, .f32⟩
  | 46 => ⟨S4x512x512, .f32⟩
  | 47 => ⟨S4x512x512, .i32⟩
  | 48 => ⟨S4x512x512, .f32⟩
  | 49 => ⟨S4x512x512, .i32⟩
  | 50 => ⟨S4x512x40, .i32⟩
  | 51 => ⟨S4, .i32⟩
  | 52 => ⟨S4x1x1, .i32⟩
  | 53 => ⟨S512, .i32⟩
  | 54 => ⟨S1x512x1, .i32⟩
  | 55 => ⟨S_, .i32⟩
  | 56 => ⟨S4x1x1, .i32⟩
  | 57 => ⟨S4x1x1, .i1⟩
  | 58 => ⟨S_, .i32⟩
  | 59 => ⟨S4x1x1, .i32⟩
  | 60 => ⟨S4x1x1, .i32⟩
  | 61 => ⟨S4x1x1, .i32⟩
  | 62 => ⟨S_, .i32⟩
  | 63 => ⟨S1x512x1, .i32⟩
  | 64 => ⟨S1x512x1, .i1⟩
  | 65 => ⟨S_, .i32⟩
  | 66 => ⟨S1x512x1, .i32⟩
  | 67 => ⟨S1x512x1, .i32⟩
  | 68 => ⟨S1x512x1, .i32⟩
  | 69 => ⟨S_, .i32⟩
  | 70 => ⟨S4x512x40, .i32⟩
  | 71 => ⟨S4x512x40, .i1⟩
  | 72 => ⟨S_, .i32⟩
  | 73 => ⟨S4x512x40, .i32⟩
  | 74 => ⟨S4x512x40, .i32⟩
  | 75 => ⟨S4x512x40, .i32⟩
  | 76 => ⟨S4x512x40, .i32⟩
  | 77 => ⟨S4x512x40, .i32⟩
  | 78 => ⟨S4x512x40x1, .i32⟩
  | 79 => ⟨S4x512x40x1, .i32⟩
  | 80 => ⟨S4x512x40x1, .i32⟩
  | 81 => ⟨S4x512x40x3, .i32⟩
  | 82 => ⟨S4x512x40, .f32⟩
  | 83 => ⟨S4x1x512x22, .f32⟩
  | 84 => ⟨S4x1x512x512x22, .f32⟩
  | 85 => ⟨S4x512x512x22, .f32⟩
  | 86 => ⟨S_, .i32⟩
  | 87 => ⟨S4x1x1, .i32⟩
  | 88 => ⟨S4x1x1, .i1⟩
  | 89 => ⟨S_, .i32⟩
  | 90 => ⟨S4x1x1, .i32⟩
  | 91 => ⟨S4x1x1, .i32⟩
  | 92 => ⟨S4x1x1, .i32⟩
  | 93 => ⟨S_, .i32⟩
  | 94 => ⟨S1x512x1, .i32⟩
  | 95 => ⟨S1x512x1, .i1⟩
  | 96 => ⟨S_, .i32⟩
  | 97 => ⟨S1x512x1, .i32⟩
  | 98 => ⟨S1x512x1, .i32⟩
  | 99 => ⟨S1x512x1, .i32⟩
  | 100 => ⟨S_, .i32⟩
  | 101 => ⟨S4x512x40, .i32⟩
  | 102 => ⟨S4x512x40, .i1⟩
  | 103 => ⟨S_, .i32⟩
  | 104 => ⟨S4x512x40, .i32⟩
  | 105 => ⟨S4x512x40, .i32⟩
  | 106 => ⟨S4x512x40, .i32⟩
  | 107 => ⟨S4x512x40, .i32⟩
  | 108 => ⟨S4x512x40, .i32⟩
  | 109 => ⟨S4x512x40x1, .i32⟩
  | 110 => ⟨S4x512x40x1, .i32⟩
  | 111 => ⟨S4x512x40x1, .i32⟩
  | 112 => ⟨S4x512x40x3, .i32⟩
  | 113 => ⟨S4x512x40x22, .f32⟩
  | 114 => ⟨S4x512x40, .f32⟩
  | 115 => ⟨S_, .f32⟩
  | 116 => ⟨S4x512x40, .f32⟩
  | 117 => ⟨S4x512x40, .f32⟩
  | 118 => ⟨S4x512x40, .f32⟩
  | 119 => ⟨S4x512x40x1, .f32⟩
  | 120 => ⟨S4x512x40x22, .f32⟩
  | 121 => ⟨S4x512x40x22, .f32⟩
  | 122 => ⟨S_, .f32⟩
  | 123 => ⟨S4x512x22, .f32⟩
  | 124 => ⟨S_, .f32⟩
  | 125 => ⟨S4x512x22, .f32⟩
  | 126 => ⟨S4x512x22, .f32⟩
  | 127 => ⟨S_, .f32⟩
  | _ => ⟨S4x512x64, .f32⟩

abbrev hbmTy0_1 (i : Nat) : BufTy := match i % 128 with
  | 0 => ⟨S4x512x22, .f32⟩
  | 1 => ⟨S4x512x172, .f32⟩
  | 2 => ⟨S4x512x48, .f32⟩
  | 3 => ⟨S1x1x48, .f32⟩
  | 4 => ⟨S4x512x48, .f32⟩
  | 5 => ⟨S4x512x48, .f32⟩
  | 6 => ⟨S_, .f32⟩
  | 7 => ⟨S4x512x48, .f32⟩
  | 8 => ⟨S4x512x48, .f32⟩
  | _ => ⟨S4x512x64, .f32⟩

abbrev hbmTy (i : Nat) : BufTy := match i / 128 with
  | 0 => hbmTy0_0 i
  | 1 => hbmTy0_1 i
  | _ => ⟨S4x512x64, .f32⟩

abbrev bufTy : (tb : Table) → Fin (tcTables nBuf tb) → BufTy
  | .hbm, ⟨i, _⟩ => hbmTy i
  | _, _ => ⟨S4x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_call2_v0 : Ref sig .tc := ⟨.hbm, 44, rfl⟩
abbrev main_call2_v1 : Ref sig .tc := ⟨.hbm, 45, rfl⟩
abbrev main_v28 : Ref sig .tc := ⟨.hbm, 46, rfl⟩
abbrev main_call3_v0 : Ref sig .tc := ⟨.hbm, 47, rfl⟩
abbrev main_call3_v1_0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c : Ref sig .tc := ⟨.hbm, 55, rfl⟩
abbrev main_v35 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_7 : Ref sig .tc := ⟨.hbm, 62, rfl⟩
abbrev main_v40 : Ref sig .tc := ⟨.hbm, 63, rfl⟩
abbrev main_v41 : Ref sig .tc := ⟨.hbm, 64, rfl⟩
abbrev main_c_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_c_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_11 : Ref sig .tc := ⟨.hbm, 86, rfl⟩
abbrev main_v60 : Ref sig .tc := ⟨.hbm, 87, rfl⟩
abbrev main_v61 : Ref sig .tc := ⟨.hbm, 88, rfl⟩
abbrev main_c_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_18 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_v91 : Ref sig .tc := ⟨.hbm, 126, rfl⟩
abbrev main_cst_20 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_call4_cst : Ref sig .tc := ⟨.hbm, 134, rfl⟩
abbrev main_call4_v0 : Ref sig .tc := ⟨.hbm, 135, rfl⟩
abbrev main_v98 : Ref sig .tc := ⟨.hbm, 136, rfl⟩

abbrev nD : Nat := 1
abbrev τ : Topo := Topo.v7x

variable {F : FTy → Type} [FloatOps F]
-- ==== Proof.GravNet.Form.lean ====
module

public import proofs.«01_k».proof.Proof.Gen.KernelIdeal.Frame

@[expose] public section

noncomputable section

namespace Cert.GravNet

open Idealize.ShloMosaic Idealize.SL.Sem Cert.KernelIdeal Cert.KernelIdeal.Gen

variable {F : FTy → Type} [FloatOps F] [Named F]

/-- The midpoints of the brackets `[lo, hi]` of a bisection. -/
def mid (p : IVec S1x1024 32 × IVec S1x1024 32) : IVec S1x1024 32 :=
  addi p.1 (shrui (subi p.2 p.1) (broadcast S1x1024 1#32))

/-- The columns in which at least 40 keys are at most the given bounds. -/
def enough (F : FTy → Type) [FloatOps F] (key : IVec S512x1024 32) (v : IVec S1x1024 32) : IVec S1x1024 1 :=
  cmpf (F := F) .oge
    (matmul dot_S1x512_S512x1024_S1x1024_1_0_0_1_n_n none (k0_pay15 (F := F))
      (truncf .bf16 (sitofp .f32 (extui 32 (cmpi .sle key (broadcastTo S512x1024 v broadcasts_S1x1024_S512x1024)) natLt_1_32)) bitsLt_bf16_f32)
      (constant S1x1024 .f32 0x00000000#32))
    (broadcast S1x1024 (Scalar.ofBits .f32 0x42200000#32))

/-- One step of the bisection, in every column of one half. -/
def bstep (F : FTy → Type) [FloatOps F] (key : IVec S512x1024 32) (p : IVec S1x1024 32 × IVec S1x1024 32) :
    IVec S1x1024 32 × IVec S1x1024 32 :=
  (select (enough F key (mid p)) p.1 (addi (mid p) (broadcast S1x1024 1#32)), select (enough F key (mid p)) (mid p) p.2)

/-- The first bracket. -/
def bracket0 : IVec S1x1024 32 × IVec S1x1024 32 := (broadcast S1x1024 0#32, broadcast S1x1024 2139095040#32)

/-- The thresholds of all columns: 31 steps in each half, side by side. -/
def thresh (F : FTy → Type) [FloatOps F] (key : IVec S512x2048 32) : IVec S1x2048 32 :=
  concatenate S1x2048 1
    [⟨S1x1024, ((bstep F (k0_pay16 key))^[31] bracket0).1⟩, ⟨S1x1024, ((bstep F (k0_pay17 key))^[31] bracket0).1⟩]
    concatenates_S1x1024_S1x1024_S1x2048_d1

/-- The squared distances within one batch entry, by the Gram form. -/
def sqBlock (s : FVec F S512x4 .f32) : FVec F S512x512 .f32 :=
  maximumf
    (subf
      (addf
        (broadcastTo S512x512 (shapeCast S512x1 (multiReduction .add [1] S512 (mulf s s) 0x00000000#32 reduces_S512x4_S512 (.inl rfl) rfl) shapeCasts_S512_S512x1) broadcasts_S512x1_S512x512)
        (broadcastTo S512x512 (matmul dot_S1x4_S512x4_S1x512_1_1_0_0_n_n (some .fp32) (k0_pay5 (F := F)) (mulf s s) (constant S1x512 .f32 0x00000000#32)) broadcasts_S1x512_S512x512))
      (mulf (broadcast S512x512 (Scalar.ofBits .f32 0x40000000#32))
        (matmul dot_S512x4_S512x4_S512x512_1_1_0_0_n_n (some .fp32) s s (constant S512x512 .f32 0x00000000#32))))
    (broadcast S512x512 (Scalar.ofBits .f32 0x00000000#32))

/-- The squared distances of all batch entries, side by side. -/
def sqAll (s : FVec F S2048x4 .f32) : FVec F S512x2048 .f32 :=
  concatenate S512x2048 1
    [⟨S512x512, sqBlock (extractStridedSlice S512x4 ![0, 0] s slices_S2048x4_o0_0_S512x4)⟩,
     ⟨S512x512, sqBlock (extractStridedSlice S512x4 ![512, 0] s slices_S2048x4_o512_0_S512x4)⟩,
     ⟨S512x512, sqBlock (extractStridedSlice S512x4 ![1024, 0] s slices_S2048x4_o1024_0_S512x4)⟩,
     ⟨S512x512, sqBlock (extractStridedSlice S512x4 ![1536, 0] s slices_S2048x4_o1536_0_S512x4)⟩]
    concatenates_S512x512_S512x512_S512x512_S512x512_S512x2048_d1

/-- The keys: the rank of each squared distance in its column, counted over the rotations of the rows. -/
def keyAll (sq : FVec F S512x2048 .f32) : IVec S512x2048 32 :=
  (Scf.fold (n := k0_t1_loop.trips)
    (fun _ p => (k0_pay13 p.1, addi p.2 (extui 32 (cmpf .olt (k0_pay13 p.1) sq) natLt_1_32))) (sq, k0_pay12)).2

/-- The weighted mean of one batch entry, from the two halves of the weights and of the features. -/
def meanBlock (w wlo : FVec F S512x512 .bf16) (l llo : FVec F S512x22 .bf16) : FVec F S512x22 .f32 :=
  mulf
    (addf
      (addf (matmul dot_S512x512_S512x22_S512x22_0_0_1_1_n_n none w l (constant S512x22 .f32 0x00000000#32))
        (matmul dot_S512x512_S512x22_S512x22_0_0_1_1_n_n none w llo (constant S512x22 .f32 0x00000000#32)))
      (matmul dot_S512x512_S512x22_S512x22_0_0_1_1_n_n none wlo l (constant S512x22 .f32 0x00000000#32)))
    (broadcast S512x22 (Named.named κ "inv_k" 0x3CCCCCCD#32))

/-- The weighted maximum of feature `f`, as a row. -/
def maxRow (w : FVec F S512x512 .bf16) (l : FVec F S512x22 .bf16) (f : ℕ) (h : S512x22.Slices ![0, f] S512x1) :
    FVec F S1x512 .bf16 :=
  shapeCast S1x512
    (multiReduction .maximumf [0] S512 (mulf w (broadcastTo S512x512 (extractStridedSlice S512x1 ![0, f] l h) broadcasts_S512x1_S512x512))
      0xFF80#16 reduces_S512x512_S512 (.inr rfl) rfl) shapeCasts_S512_S1x512

/-- The weighted maxima of one batch entry. -/
def maxBlock (w : FVec F S512x512 .bf16) (l : FVec F S512x22 .bf16) : FVec F S512x22 .f32 :=
  extf .f32
    (transpose S512x22 [1, 0]
      (concatenate S22x512 0
        [⟨S1x512, maxRow w l 0 slices_S512x22_o0_0_S512x1⟩, ⟨S1x512, maxRow w l 1 slices_S512x22_o0_1_S512x1⟩, ⟨S1x512, maxRow w l 2 slices_S512x22_o0_2_S512x1⟩, ⟨S1x512, maxRow w l 3 slices_S512x22_o0_3_S512x1⟩, ⟨S1x512, maxRow w l 4 slices_S512x22_o0_4_S512x1⟩, ⟨S1x512, maxRow w l 5 slices_S512x22_o0_5_S512x1⟩, ⟨S1x512, maxRow w l 6 slices_S512x22_o0_6_S512x1⟩, ⟨S1x512, maxRow w l 7 slices_S512x22_o0_7_S512x1⟩, ⟨S1x512, maxRow w l 8 slices_S512x22_o0_8_S512x1⟩, ⟨S1x512, maxRow w l 9 slices_S512x22_o0_9_S512x1⟩, ⟨S1x512, maxRow w l 10 slices_S512x22_o0_10_S512x1⟩, ⟨S1x512, maxRow w l 11 slices_S512x22_o0_11_S512x1⟩, ⟨S1x512, maxRow w l 12 slices_S512x22_o0_12_S512x1⟩, ⟨S1x512, maxRow w l 13 slices_S512x22_o0_13_S512x1⟩, ⟨S1x512, maxRow w l 14 slices_S512x22_o0_14_S512x1⟩, ⟨S1x512, maxRow w l 15 slices_S512x22_o0_15_S512x1⟩, ⟨S1x512, maxRow w l 16 slices_S512x22_o0_16_S512x1⟩, ⟨S1x512, maxRow w l 17 slices_S512x22_o0_17_S512x1⟩, ⟨S1x512, maxRow w l 18 slices_S512x22_o0_18_S512x1⟩, ⟨S1x512, maxRow w l 19 slices_S512x22_o0_19_S512x1⟩, ⟨S1x512, maxRow w l 20 slices_S512x22_o0_20_S512x1⟩, ⟨S1x512, maxRow w l 21 slices_S512x22_o0_21_S512x1⟩]
        concatenates_S1x512_S1x512_S1x512_S1x512_S1x512_S1x512_S1x512_S1x512_S1x512_S1x512_S1x512_S1x512_S1x512_S1x512_S1x512_S1x512_S1x512_S1x512_S1x512_S1x512_S1x512_S1x512_S22x512_d0)
      transposes_S22x512_p1_0_S512x22) bitsLt_bf16_f32

/-- The output layer on the means and the maxima of the four batch entries. -/
def outLayer (x2 : FVec F S2048x128 .f32) (m0 m1 m2 m3 g0 g1 g2 g3 : FVec F S512x22 .f32) (wo : Vec F S172x48 .f32)
    (bo : Vec F S1x48 .f32) : FVec F S4x512x48 .f32 :=
  shapeCast S4x512x48
    (maximumf
      (addf
        (matmul dot_S2048x172_S172x48_S2048x48_1_0_0_1_n_n none
          (concatenate S2048x172 1
            [⟨S2048x128, x2⟩,
             ⟨S2048x22, concatenate S2048x22 0 [⟨S512x22, m0⟩, ⟨S512x22, m1⟩, ⟨S512x22, m2⟩, ⟨S512x22, m3⟩] concatenates_S512x22_S512x22_S512x22_S512x22_S2048x22_d0⟩,
             ⟨S2048x22, concatenate S2048x22 0 [⟨S512x22, g0⟩, ⟨S512x22, g1⟩, ⟨S512x22, g2⟩, ⟨S512x22, g3⟩] concatenates_S512x22_S512x22_S512x22_S512x22_S2048x22_d0⟩]
            concatenates_S2048x128_S2048x22_S2048x22_S2048x172_d1)
          (shapeCast S172x48 wo shapeCasts_S172x48_S172x48) (constant S2048x48 .f32 0x00000000#32))
        (broadcastTo S2048x48 (shapeCast S1x48 bo shapeCasts_S1x48_S1x48) broadcasts_S1x48_S2048x48))
      (broadcast S2048x48 (Scalar.ofBits .f32 0x00000000#32)))
    shapeCasts_S2048x48_S4x512x48

/-- The high half of a matrix of weights. -/
def hiW (w : FVec F S512x2048 .f32) : FVec F S512x2048 .bf16 := truncf .bf16 w bitsLt_bf16_f32

/-- The low half of a matrix of weights. -/
def loW (w : FVec F S512x2048 .f32) : FVec F S512x2048 .bf16 :=
  truncf .bf16 (subf w (extf .f32 (hiW w) bitsLt_bf16_f32)) bitsLt_bf16_f32

/-- The high half of the features. -/
def hiL (l : FVec F S2048x22 .f32) : FVec F S2048x22 .bf16 := truncf .bf16 l bitsLt_bf16_f32

/-- The low half of the features. -/
def loL (l : FVec F S2048x22 .f32) : FVec F S2048x22 .bf16 :=
  truncf .bf16 (subf l (extf .f32 (hiL l) bitsLt_bf16_f32)) bitsLt_bf16_f32

/-- The layer from its features `x2`, its weights and its learned features. -/
def aggregate (x2 : FVec F S2048x128 .f32) (w : FVec F S512x2048 .f32) (lr : FVec F S2048x22 .f32) (wo : Vec F S172x48 .f32)
    (bo : Vec F S1x48 .f32) : FVec F S4x512x48 .f32 :=
  outLayer x2
    (meanBlock (extractStridedSlice S512x512 ![0, 0] (hiW w) slices_S512x2048_o0_0_S512x512) (extractStridedSlice S512x512 ![0, 0] (loW w) slices_S512x2048_o0_0_S512x512)
      (extractStridedSlice S512x22 ![0, 0] (hiL lr) slices_S2048x22_o0_0_S512x22) (extractStridedSlice S512x22 ![0, 0] (loL lr) slices_S2048x22_o0_0_S512x22))
    (meanBlock (extractStridedSlice S512x512 ![0, 512] (hiW w) slices_S512x2048_o0_512_S512x512) (extractStridedSlice S512x512 ![0, 512] (loW w) slices_S512x2048_o0_512_S512x512)
      (extractStridedSlice S512x22 ![512, 0] (hiL lr) slices_S2048x22_o512_0_S512x22) (extractStridedSlice S512x22 ![512, 0] (loL lr) slices_S2048x22_o512_0_S512x22))
    (meanBlock (extractStridedSlice S512x512 ![0, 1024] (hiW w) slices_S512x2048_o0_1024_S512x512) (extractStridedSlice S512x512 ![0, 1024] (loW w) slices_S512x2048_o0_1024_S512x512)
      (extractStridedSlice S512x22 ![1024, 0] (hiL lr) slices_S2048x22_o1024_0_S512x22) (extractStridedSlice S512x22 ![1024, 0] (loL lr) slices_S2048x22_o1024_0_S512x22))
    (meanBlock (extractStridedSlice S512x512 ![0, 1536] (hiW w) slices_S512x2048_o0_1536_S512x512) (extractStridedSlice S512x512 ![0, 1536] (loW w) slices_S512x2048_o0_1536_S512x512)
      (extractStridedSlice S512x22 ![1536, 0] (hiL lr) slices_S2048x22_o1536_0_S512x22) (extractStridedSlice S512x22 ![1536, 0] (loL lr) slices_S2048x22_o1536_0_S512x22))
    (maxBlock (extractStridedSlice S512x512 ![0, 0] (hiW w) slices_S512x2048_o0_0_S512x512) (extractStridedSlice S512x22 ![0, 0] (hiL lr) slices_S2048x22_o0_0_S512x22))
    (maxBlock (extractStridedSlice S512x512 ![0, 512] (hiW w) slices_S512x2048_o0_512_S512x512) (extractStridedSlice S512x22 ![512, 0] (hiL lr) slices_S2048x22_o512_0_S512x22))
    (maxBlock (extractStridedSlice S512x512 ![0, 1024] (hiW w) slices_S512x2048_o0_1024_S512x512) (extractStridedSlice S512x22 ![1024, 0] (hiL lr) slices_S2048x22_o1024_0_S512x22))
    (maxBlock (extractStridedSlice S512x512 ![0, 1536] (hiW w) slices_S512x2048_o0_1536_S512x512) (extractStridedSlice S512x22 ![1536, 0] (hiL lr) slices_S2048x22_o1536_0_S512x22))
    wo bo

/-- The weights, from the positions in the learned space. -/
def weights (s : FVec F S2048x4 .f32) : FVec F S512x2048 .f32 :=
  k0_pay276 (sqAll s) (keyAll (sqAll s)) k0_pay15 (thresh F (keyAll (sqAll s)))

/-- The layer from its features and the weights of the learned transformation. -/
def layer (x2 : FVec F S2048x128 .f32) (w : Vec F S128x26 .f32) (b : Vec F S1x26 .f32) (wo : Vec F S172x48 .f32)
    (bo : Vec F S1x48 .f32) : FVec F S4x512x48 .f32 :=
  aggregate x2 (weights (k0_pay3 x2 w b)) (k0_pay4 x2 w b) wo bo

variable (c : Dev nD) (arg0 : Memref sig .tc .vmem S4x512x64 .f32) (harg0 : arg0.IsWhole) (arg1 : Memref sig .tc .vmem S128x26 .f32)
  (harg1 : arg1.IsWhole) (arg2 : Memref sig .tc .vmem S1x26 .f32) (harg2 : arg2.IsWhole)
  (arg3 : Memref sig .tc .vmem S172x48 .f32) (harg3 : arg3.IsWhole) (arg4 : Memref sig .tc .vmem S1x48 .f32) (harg4 : arg4.IsWhole)
  (x0 : Vec F S4x512x64 .f32) (x1 : Vec F S128x26 .f32) (x2 : Vec F S1x26 .f32) (x3 : Vec F S172x48 .f32) (x4 : Vec F S1x48 .f32)

/-- The squared distances of the kernel. -/
theorem sq_eq :
    kernelRun0_A.sl.r_10 c arg0 harg0 arg1 harg1 arg2 harg2 x0 x1 x2
      = sqAll (kernelRun0_A.sl.r_2 c arg0 harg0 arg1 harg1 arg2 harg2 x0 x1 x2) := by
  rfl

/-- The keys of the kernel. -/
theorem key_eq :
    kernelRun0_A.sl.r_11 c arg0 harg0 arg1 harg1 arg2 harg2 x0 x1 x2
      = keyAll (sqAll (kernelRun0_A.sl.r_2 c arg0 harg0 arg1 harg1 arg2 harg2 x0 x1 x2)) := by
  rfl

/-- The thresholds of the kernel: its 31 unrolled steps are the steps of an iteration. -/
theorem thresh_eq :
    kernelRun0_A.sl.r_127 c arg0 harg0 arg1 harg1 arg2 harg2 x0 x1 x2
      = thresh F (kernelRun0_A.sl.r_11 c arg0 harg0 arg1 harg1 arg2 harg2 x0 x1 x2) := by
  rfl

/-- The high half of the weights of the kernel. -/
theorem weights_hi :
    kernelRun0_A.sl.r_128 c arg0 harg0 arg1 harg1 arg2 harg2 x0 x1 x2
      = hiW (k0_pay276 (kernelRun0_A.sl.r_10 c arg0 harg0 arg1 harg1 arg2 harg2 x0 x1 x2) (kernelRun0_A.sl.r_11 c arg0 harg0 arg1 harg1 arg2 harg2 x0 x1 x2) k0_pay15 (kernelRun0_A.sl.r_127 c arg0 harg0 arg1 harg1 arg2 harg2 x0 x1 x2)) := by
  rfl

/-- The low half of the weights of the kernel. -/
theorem weights_lo :
    kernelRun0_A.sl.r_129 c arg0 harg0 arg1 harg1 arg2 harg2 x0 x1 x2
      = loW (k0_pay276 (kernelRun0_A.sl.r_10 c arg0 harg0 arg1 harg1 arg2 harg2 x0 x1 x2) (kernelRun0_A.sl.r_11 c arg0 harg0 arg1 harg1 arg2 harg2 x0 x1 x2) k0_pay15 (kernelRun0_A.sl.r_127 c arg0 harg0 arg1 harg1 arg2 harg2 x0 x1 x2)) := by
  rfl

/-- The high half of the features of the kernel. -/
theorem feat_hi :
    kernelRun0_A.sl.r_130 c arg0 harg0 arg1 harg1 arg2 harg2 x0 x1 x2
      = hiL (kernelRun0_A.sl.r_3 c arg0 harg0 arg1 harg1 arg2 harg2 x0 x1 x2) := by
  rfl

/-- The low half of the features of the kernel. -/
theorem feat_lo :
    kernelRun0_A.sl.r_131 c arg0 harg0 arg1 harg1 arg2 harg2 x0 x1 x2
      = loL (kernelRun0_A.sl.r_3 c arg0 harg0 arg1 harg1 arg2 harg2 x0 x1 x2) := by
  rfl

/-- The means of batch entry 0. -/
theorem mean_0 :
    kernelRun0_A.sl.r_134 c arg0 harg0 arg1 harg1 arg2 harg2 x0 x1 x2
      = meanBlock (extractStridedSlice S512x512 ![0, 0] (kernelRun0_A.sl.r_128 c arg0 harg0 arg1 harg1 arg2 harg2 x0 x1 x2) slices_S512x2048_o0_0_S512x512) (extractStridedSlice S512x512 ![0, 0] (kernelRun0_A.sl.r_129 c arg0 harg0 arg1 harg1 arg2 harg2 x0 x1 x2) slices_S512x2048_o0_0_S512x512)
        (extractStridedSlice S512x22 ![0, 0] (kernelRun0_A.sl.r_130 c arg0 harg0 arg1 harg1 arg2 harg2 x0 x1 x2) slices_S2048x22_o0_0_S512x22) (extractStridedSlice S512x22 ![0, 0] (kernelRun0_A.sl.r_131 c arg0 harg0 arg1 harg1 arg2 harg2 x0 x1 x2) slices_S2048x22_o0_0_S512x22) := by
  rfl

/-- The maxima of batch entry 0. -/
theorem max_0 :
    kernelRun0_A.sl.r_158 c arg0 harg0 arg1 harg1 arg2 harg2 x0 x1 x2
      = maxBlock (extractStridedSlice S512x512 ![0, 0] (kernelRun0_A.sl.r_128 c arg0 harg0 arg1 harg1 arg2 harg2 x0 x1 x2) slices_S512x2048_o0_0_S512x512) (extractStridedSlice S512x22 ![0, 0] (kernelRun0_A.sl.r_130 c arg0 harg0 arg1 harg1 arg2 harg2 x0 x1 x2) slices_S2048x22_o0_0_S512x22) := by
  rfl

/-- The means of batch entry 1. -/
theorem mean_1 :
    kernelRun0_A.sl.r_161 c arg0 harg0 arg1 harg1 arg2 harg2 x0 x1 x2
      = meanBlock (extractStridedSlice S512x512 ![0, 512] (kernelRun0_A.sl.r_128 c arg0 harg0 arg1 harg1 arg2 harg2 x0 x1 x2) slices_S512x2048_o0_512_S512x512) (extractStridedSlice S512x512 ![0, 512] (kernelRun0_A.sl.r_129 c arg0 harg0 arg1 harg1 arg2 harg2 x0 x1 x2) slices_S512x2048_o0_512_S512x512)
        (extractStridedSlice S512x22 ![512, 0] (kernelRun0_A.sl.r_130 c arg0 harg0 arg1 harg1 arg2 harg2 x0 x1 x2) slices_S2048x22_o512_0_S512x22) (extractStridedSlice S512x22 ![512, 0] (kernelRun0_A.sl.r_131 c arg0 harg0 arg1 harg1 arg2 harg2 x0 x1 x2) slices_S2048x22_o512_0_S512x22) := by
  rfl

/-- The maxima of batch entry 1. -/
theorem max_1 :
    kernelRun0_A.sl.r_179 c arg0 harg0 arg1 harg1 arg2 harg2 x0 x1 x2
      = maxBlock (extractStridedSlice S512x512 ![0, 512] (kernelRun0_A.sl.r_128 c arg0 harg0 arg1 harg1 arg2 harg2 x0 x1 x2) slices_S512x2048_o0_512_S512x512) (extractStridedSlice S512x22 ![512, 0] (kernelRun0_A.sl.r_130 c arg0 harg0 arg1 harg1 arg2 harg2 x0 x1 x2) slices_S2048x22_o512_0_S512x22) := by
  rfl

/-- The means of batch entry 2. -/
theorem mean_2 :
    kernelRun0_A.sl.r_182 c arg0 harg0 arg1 harg1 arg2 harg2 x0 x1 x2
      = meanBlock (extractStridedSlice S512x512 ![0, 1024] (kernelRun0_A.sl.r_128 c arg0 harg0 arg1 harg1 arg2 harg2 x0 x1 x2) slices_S512x2048_o0_1024_S512x512) (extractStridedSlice S512x512 ![0, 1024] (kernelRun0_A.sl.r_129 c arg0 harg0 arg1 harg1 arg2 harg2 x0 x1 x2) slices_S512x2048_o0_1024_S512x512)
        (extractStridedSlice S512x22 ![1024, 0] (kernelRun0_A.sl.r_130 c arg0 harg0 arg1 harg1 arg2 harg2 x0 x1 x2) slices_S2048x22_o1024_0_S512x22) (extractStridedSlice S512x22 ![1024, 0] (kernelRun0_A.sl.r_131 c arg0 harg0 arg1 harg1 arg2 harg2 x0 x1 x2) slices_S2048x22_o1024_0_S512x22) := by
  rfl

/-- The maxima of batch entry 2. -/
theorem max_2 :
    kernelRun0_A.sl.r_206 c arg0 harg0 arg1 harg1 arg2 harg2 x0 x1 x2
      = maxBlock (extractStridedSlice S512x512 ![0, 1024] (kernelRun0_A.sl.r_128 c arg0 harg0 arg1 harg1 arg2 harg2 x0 x1 x2) slices_S512x2048_o0_1024_S512x512) (extractStridedSlice S512x22 ![1024, 0] (kernelRun0_A.sl.r_130 c arg0 harg0 arg1 harg1 arg2 harg2 x0 x1 x2) slices_S2048x22_o1024_0_S512x22) := by
  rfl

/-- The means of batch entry 3. -/
theorem mean_3 :
    kernelRun0_A.sl.r_209 c arg0 harg0 arg1 harg1 arg2 harg2 x0 x1 x2
      = meanBlock (extractStridedSlice S512x512 ![0, 1536] (kernelRun0_A.sl.r_128 c arg0 harg0 arg1 harg1 arg2 harg2 x0 x1 x2) slices_S512x2048_o0_1536_S512x512) (extractStridedSlice S512x512 ![0, 1536] (kernelRun0_A.sl.r_129 c arg0 harg0 arg1 harg1 arg2 harg2 x0 x1 x2) slices_S512x2048_o0_1536_S512x512)
        (extractStridedSlice S512x22 ![1536, 0] (kernelRun0_A.sl.r_130 c arg0 harg0 arg1 harg1 arg2 harg2 x0 x1 x2) slices_S2048x22_o1536_0_S512x22) (extractStridedSlice S512x22 ![1536, 0] (kernelRun0_A.sl.r_131 c arg0 harg0 arg1 harg1 arg2 harg2 x0 x1 x2) slices_S2048x22_o1536_0_S512x22) := by
  rfl

/-- The output layer of the kernel. -/
theorem out_eq :
    kernelRun0_A.sl.r_227 c arg0 harg0 arg1 harg1 arg2 harg2 arg3 harg3 arg4 harg4 x0 x1 x2 x3 x4
      = outLayer (kernelRun0_A.sl.r c arg0 harg0 x0) (kernelRun0_A.sl.r_134 c arg0 harg0 arg1 harg1 arg2 harg2 x0 x1 x2) (kernelRun0_A.sl.r_161 c arg0 harg0 arg1 harg1 arg2 harg2 x0 x1 x2) (kernelRun0_A.sl.r_182 c arg0 harg0 arg1 harg1 arg2 harg2 x0 x1 x2)
        (kernelRun0_A.sl.r_209 c arg0 harg0 arg1 harg1 arg2 harg2 x0 x1 x2) (kernelRun0_A.sl.r_158 c arg0 harg0 arg1 harg1 arg2 harg2 x0 x1 x2) (kernelRun0_A.sl.r_179 c arg0 harg0 arg1 harg1 arg2 harg2 x0 x1 x2)
        (kernelRun0_A.sl.r_206 c arg0 harg0 arg1 harg1 arg2 harg2 x0 x1 x2) (maxBlock (extractStridedSlice S512x512 ![0, 1536] (kernelRun0_A.sl.r_128 c arg0 harg0 arg1 harg1 arg2 harg2 x0 x1 x2) slices_S512x2048_o0_1536_S512x512) (extractStridedSlice S512x22 ![1536, 0] (kernelRun0_A.sl.r_130 c arg0 harg0 arg1 harg1 arg2 harg2 x0 x1 x2) slices_S2048x22_o1536_0_S512x22))
        (View.readAt (Elt F) arg3.view (Rect.unit ![0, 0] S172x48.size inb_S172x48_S172x48_0_0).toLoadRect (harg3.unread x3))
        (View.readAt (Elt F) arg4.view (Rect.unit ![0, 0] S1x48.size inb_S1x48_S1x48_0_0).toLoadRect (harg4.unread x4)) := by
  rfl

/-- The positions in the learned space. -/
theorem pos_eq :
    kernelRun0_A.sl.r_2 c arg0 harg0 arg1 harg1 arg2 harg2 x0 x1 x2
      = k0_pay3 (kernelRun0_A.sl.r c arg0 harg0 x0) (kernelRun0_A.sl.r_1 c arg1 harg1 x1)
        (View.readAt (Elt F) arg2.view (Rect.unit ![0, 0] S1x26.size inb_S1x26_S1x26_0_0).toLoadRect (harg2.unread x2)) := by
  rfl

/-- The learned features. -/
theorem feat_eq :
    kernelRun0_A.sl.r_3 c arg0 harg0 arg1 harg1 arg2 harg2 x0 x1 x2
      = k0_pay4 (kernelRun0_A.sl.r c arg0 harg0 x0) (kernelRun0_A.sl.r_1 c arg1 harg1 x1)
        (View.readAt (Elt F) arg2.view (Rect.unit ![0, 0] S1x26.size inb_S1x26_S1x26_0_0).toLoadRect (harg2.unread x2)) := by
  rfl

/-- The kernel's stored value is the layer, of what it loads. -/
theorem stored_eq :
    kernelRun0_A.sl.r_227 c arg0 harg0 arg1 harg1 arg2 harg2 arg3 harg3 arg4 harg4 x0 x1 x2 x3 x4
      = layer (kernelRun0_A.sl.r c arg0 harg0 x0) (kernelRun0_A.sl.r_1 c arg1 harg1 x1)
        (View.readAt (Elt F) arg2.view (Rect.unit ![0, 0] S1x26.size inb_S1x26_S1x26_0_0).toLoadRect (harg2.unread x2))
        (View.readAt (Elt F) arg3.view (Rect.unit ![0, 0] S172x48.size inb_S172x48_S172x48_0_0).toLoadRect (harg3.unread x3))
        (View.readAt (Elt F) arg4.view (Rect.unit ![0, 0] S1x48.size inb_S1x48_S1x48_0_0).toLoadRect (harg4.unread x4)) := by
  rw [out_eq, mean_0, mean_1, mean_2, mean_3, max_0, max_1, max_2, weights_hi, weights_lo, feat_hi, feat_lo, thresh_eq,
    sq_eq, key_eq, pos_eq, feat_eq]
  rfl

end Cert.GravNet
end
-- ==== Proof.GravNet.Output.lean ====
module

public import proofs.«01_k».proof.Proof.GravNet.Form
public import proofs.«01_k».proof.Proof.Gen.KernelIdeal.Value
public import Idealize.ShloMosaic.Lib.VecWindow
public import Idealize.ShloMosaic.Lib.WritesUnit
public import Idealize.ShloMosaic.Lib.Pointwise

@[expose] public section

noncomputable section

namespace Cert.GravNet

open Cert.KernelIdeal Cert.KernelIdeal.Gen Cert.KernelIdeal.Value Idealize.ShloMosaic Idealize.ShloMosaic.TcCoe Idealize.SL.Sem

variable {F : FTy → Type} [FloatOps F] [Named F]

/-- Batch entry `b` of the input. -/
def entry (x : Vec F S4x512x64 .f32) (b : Fin 4) : Vec F S1x512x64 .f32 :=
  fun y => x (ix3 b (y 1) (y 2))

/-- The features: the input beside its mean, entry by entry. -/
def feats (x : Vec F S4x512x64 .f32) : FVec F S2048x128 .f32 := k0_pay1 (entry x 0) (entry x 1) (entry x 2) (entry x 3)

/-- A load of batch entry `b` of a whole buffer. -/
theorem load_entry (a : Memref sig .tc .vmem S4x512x64 .f32) (h : a.IsWhole) (x : Vec F S4x512x64 .f32) (b : Fin 4)
    (inb : ∀ a : Fin S4x512x64.rank, (![(b : ℕ), 0, 0] : Fin 3 → ℕ) a + S1x512x64.size a ≤ S4x512x64.size a) :
    View.readAt (Elt F) a.view (Rect.unit (s := S4x512x64) ![(b : ℕ), 0, 0] S1x512x64.size inb).toLoadRect (h.unread x) = entry x b := by
  rw [View.readAt_unit _ _ inb rfl inb, h.read_unread]
  funext y
  refine congrArg x (funext fun a => Fin.ext ?_)
  have hy : (y 0).val = 0 := by have := (y 0).isLt; change (y 0).val < 1 at this; omega
  match a with
  | ⟨0, _⟩ => show (b : ℕ) + 1 * (y 0).val = b; omega
  | ⟨1, _⟩ => show 0 + 1 * (y 1).val = (y 1).val; omega
  | ⟨2, _⟩ => show 0 + 1 * (y 2).val = (y 2).val; omega

section
variable (c : Dev nD) (arg0 : Memref sig .tc .vmem S4x512x64 .f32) (harg0 : arg0.IsWhole) (arg1 : Memref sig .tc .vmem S128x26 .f32)
  (harg1 : arg1.IsWhole) (arg2 : Memref sig .tc .vmem S1x26 .f32) (harg2 : arg2.IsWhole)
  (arg3 : Memref sig .tc .vmem S172x48 .f32) (harg3 : arg3.IsWhole) (arg4 : Memref sig .tc .vmem S1x48 .f32) (harg4 : arg4.IsWhole)
  (arg5 : Memref sig .tc .vmem S4x512x48 .f32) (harg5 : arg5.IsWhole)
  (x0 : Vec F S4x512x64 .f32) (x1 : Vec F S128x26 .f32) (x2 : Vec F S1x26 .f32) (x3 : Vec F S172x48 .f32) (x4 : Vec F S1x48 .f32)

/-- What the kernel loads as features. -/
theorem loaded_feats : kernelRun0_A.sl.r c arg0 harg0 x0 = feats x0 := by
  unfold kernelRun0_A.sl.r feats
  rw [← load_entry arg0 harg0 x0 0 inb_S4x512x64_S1x512x64_0_0_0, ← load_entry arg0 harg0 x0 1 inb_S4x512x64_S1x512x64_1_0_0,
    ← load_entry arg0 harg0 x0 2 inb_S4x512x64_S1x512x64_2_0_0, ← load_entry arg0 harg0 x0 3 inb_S4x512x64_S1x512x64_3_0_0]
  rfl

/-- What the kernel loads as the weights of the learned transformation. -/
theorem loaded_w : kernelRun0_A.sl.r_1 c arg1 harg1 x1 = x1 :=
  (View.readAt_full arg1.view _ inb_S128x26_S128x26_0_0).trans (harg1.read_unread x1)

/-- The kernel stores its block of results once, whole. -/
theorem pieces_eq :
    (kernelRun0_A (F := F) c arg0 harg0 arg1 harg1 arg2 harg2 arg3 harg3 arg4 harg4 arg5 harg5 x0 x1 x2 x3 x4).1
      = [⟨Rect.unit ![0, 0, 0] S4x512x48.size inb_S4x512x48_S4x512x48_0_0_0,
          kernelRun0_A.sl.r_227 c arg0 harg0 arg1 harg1 arg2 harg2 arg3 harg3 arg4 harg4 x0 x1 x2 x3 x4⟩] := by
  unfold kernelRun0_A
  rfl

/-- The kernel's block of results is the layer of its input blocks. -/
theorem out_block :
    out0_A_5 c arg0 harg0 arg1 harg1 arg2 harg2 arg3 harg3 arg4 harg4 arg5 harg5 x0 x1 x2 x3 x4 = layer (feats x0) x1 x2 x3 x4 := by
  unfold out0_A_5
  rw [pieces_eq, View.read_writes_full VO0_5 VO0_5.junk inb_S4x512x48_S4x512x48_0_0_0]
  rw [stored_eq, loaded_feats, loaded_w]
  congr 1
  · exact (View.readAt_full arg2.view _ inb_S1x26_S1x26_0_0).trans (harg2.read_unread x2)
  · exact (View.readAt_full arg3.view _ inb_S172x48_S172x48_0_0).trans (harg3.read_unread x3)
  · exact (View.readAt_full arg4.view _ inb_S1x48_S1x48_0_0).trans (harg4.read_unread x4)

end

variable (m : (ℓ : Loc nD τ sig) → Buf (Elt F) ℓ) (ρ : Dev nD → PrngReg)

/-- Window 0 has block index zero at the one grid point. -/
theorem idx_zero0 : ∀ t : Fin cfg0.N, win0_0.index t (0 : Fin 3) = 0 ∧ win0_0.index t (1 : Fin 3) = 0 ∧ win0_0.index t (2 : Fin 3) = 0 := (by decide +kernel : ∀ t : Fin grid0.N, _)

/-- An index of window 0's block is the same index of its array. -/
theorem emb0 (t : Fin cfg0.N) (j : S4x512x64.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 512 + 1 * (j 1).val = (j 1).val; omega
  | ⟨2, _⟩ => show win0_0.index t (2 : Fin 3) * 64 + 1 * (j 2).val = (j 2).val; omega

/-- Window 0's block is its array. -/
theorem block0 (c : Dev nD) (t : Fin cfg0.N) : iblk m c 0 t = V m c main_arg0 := by
  funext j; show V m c main_arg0 (((cfg0.win 0).blk t).view.emb j) = V m c main_arg0 j; rw [emb0]

/-- Window 1 has block index zero at the one grid point. -/
theorem idx_zero1 : ∀ t : Fin cfg0.N, win0_1.index t (0 : Fin 2) = 0 ∧ win0_1.index t (1 : Fin 2) = 0 := (by decide +kernel : ∀ t : Fin grid0.N, _)

/-- An index of window 1's block is the same index of its array. -/
theorem emb1 (t : Fin cfg0.N) (j : S128x26.Idx) : ((cfg0.win 1).blk t).view.emb j = j := by
  obtain ⟨e0, e1⟩ := idx_zero1 t
  funext a; apply Fin.ext
  match a with
  | ⟨0, _⟩ => show win0_1.index t (0 : Fin 2) * 128 + 1 * (j 0).val = (j 0).val; omega
  | ⟨1, _⟩ => show win0_1.index t (1 : Fin 2) * 26 + 1 * (j 1).val = (j 1).val; omega

/-- Window 1's block is its array. -/
theorem block1 (c : Dev nD) (t : Fin cfg0.N) : iblk m c 1 t = V m c main_v0 := by
  funext j; show V m c main_v0 (((cfg0.win 1).blk t).view.emb j) = V m c main_v0 j; rw [emb1]

/-- Window 2 has block index zero at the one grid point. -/
theorem idx_zero2 : ∀ t : Fin cfg0.N, win0_2.index t (0 : Fin 2) = 0 ∧ win0_2.index t (1 : Fin 2) = 0 := (by decide +kernel : ∀ t : Fin grid0.N, _)

/-- An index of window 2's block is the same index of its array. -/
theorem emb2 (t : Fin cfg0.N) (j : S1x26.Idx) : ((cfg0.win 2).blk t).view.emb j = j := by
  obtain ⟨e0, e1⟩ := idx_zero2 t
  funext a; apply Fin.ext
  match a with
  | ⟨0, _⟩ => show win0_2.index t (0 : Fin 2) * 1 + 1 * (j 0).val = (j 0).val; omega
  | ⟨1, _⟩ => show win0_2.index t (1 : Fin 2) * 26 + 1 * (j 1).val = (j 1).val; omega

/-- Window 2's block is its array. -/
theorem block2 (c : Dev nD) (t : Fin cfg0.N) : iblk m c 2 t = V m c main_v1 := by
  funext j; show V m c main_v1 (((cfg0.win 2).blk t).view.emb j) = V m c main_v1 j; rw [emb2]

/-- Window 3 has block index zero at the one grid point. -/
theorem idx_zero3 : ∀ t : Fin cfg0.N, win0_3.index t (0 : Fin 2) = 0 ∧ win0_3.index t (1 : Fin 2) = 0 := (by decide +kernel : ∀ t : Fin grid0.N, _)

/-- An index of window 3's block is the same index of its array. -/
theorem emb3 (t : Fin cfg0.N) (j : S172x48.Idx) : ((cfg0.win 3).blk t).view.emb j = j := by
  obtain ⟨e0, e1⟩ := idx_zero3 t
  funext a; apply Fin.ext
  match a with
  | ⟨0, _⟩ => show win0_3.index t (0 : Fin 2) * 172 + 1 * (j 0).val = (j 0).val; omega
  | ⟨1, _⟩ => show win0_3.index t (1 : Fin 2) * 48 + 1 * (j 1).val = (j 1).val; omega

/-- Window 3's block is its array. -/
theorem block3 (c : Dev nD) (t : Fin cfg0.N) : iblk m c 3 t = V m c main_v2 := by
  funext j; show V m c main_v2 (((cfg0.win 3).blk t).view.emb j) = V m c main_v2 j; rw [emb3]

/-- Window 4 has block index zero at the one grid point. -/
theorem idx_zero4 : ∀ t : Fin cfg0.N, win0_4.index t (0 : Fin 2) = 0 ∧ win0_4.index t (1 : Fin 2) = 0 := (by decide +kernel : ∀ t : Fin grid0.N, _)

/-- An index of window 4's block is the same index of its array. -/
theorem emb4 (t : Fin cfg0.N) (j : S1x48.Idx) : ((cfg0.win 4).blk t).view.emb j = j := by
  obtain ⟨e0, e1⟩ := idx_zero4 t
  funext a; apply Fin.ext
  match a with
  | ⟨0, _⟩ => show win0_4.index t (0 : Fin 2) * 1 + 1 * (j 0).val = (j 0).val; omega
  | ⟨1, _⟩ => show win0_4.index t (1 : Fin 2) * 48 + 1 * (j 1).val = (j 1).val; omega

/-- Window 4's block is its array. -/
theorem block4 (c : Dev nD) (t : Fin cfg0.N) : iblk m c 4 t = V m c main_v3 := by
  funext j; show V m c main_v3 (((cfg0.win 4).blk t).view.emb j) = V m c main_v3 j; rw [emb4]

/-- Window 5 has block index zero at the one grid point. -/
theorem idx_zero5 : ∀ t : Fin cfg0.N, win0_5.index t (0 : Fin 3) = 0 ∧ win0_5.index t (1 : Fin 3) = 0 ∧ win0_5.index t (2 : Fin 3) = 0 := (by decide +kernel : ∀ t : Fin grid0.N, _)

/-- An index of window 5's block is the same index of its array. -/
theorem emb5 (t : Fin cfg0.N) (j : S4x512x48.Idx) : ((cfg0.win 5).blk t).view.emb j = j := by
  obtain ⟨e0, e1, e2⟩ := idx_zero5 t
  funext a; apply Fin.ext
  match a with
  | ⟨0, _⟩ => show win0_5.index t (0 : Fin 3) * 4 + 1 * (j 0).val = (j 0).val; omega
  | ⟨1, _⟩ => show win0_5.index t (1 : Fin 3) * 512 + 1 * (j 1).val = (j 1).val; omega
  | ⟨2, _⟩ => show win0_5.index t (2 : Fin 3) * 48 + 1 * (j 2).val = (j 2).val; omega

/-- Cutting the result block out of `X` reads `X` through the block. -/
theorem cut_eq (t : Fin cfg0.N) (X : Vec F S4x512x48 .f32) :
    (cfg0.win 5).cut (grid0.coords t) X = ((cfg0.win 5).blk t).view.read (Elt F) X := by
  funext j
  show X j = X (((cfg0.win 5).blk t).view.emb j)
  rw [emb5]

/-- What the one point writes back. -/
theorem flushed_eq (c : Dev nD) (t : Fin cfg0.N) :
    (dats m 0 c).flushed 5 t = ((cfg0.win 5).blk t).view.read (Elt F)
      (layer (feats (V m c main_arg0)) (V m c main_v0) (V m c main_v1) (V m c main_v2) (V m c main_v3)) := by
  rw [flushed5_A, out_block, block0, block1, block2, block3, block4]
  exact cut_eq t _

/-- Every index of the result array is in the point's block. -/
theorem covered (i : S4x512x48.Idx) :
    ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩

/-- The kernel's result as a function of its arguments. -/
def kernelFn (x : Vec F S4x512x64 .f32) (w : Vec F S26x128 .f32) (b : Vec F S26 .f32) (wo : Vec F S48x172 .f32) (bo : Vec F S48 .f32) :
    Vec F S4x512x48 .f32 :=
  layer (feats x) (transpose S128x26 [1, 0] w transposes_S26x128_S128x26_1_0) (shapeCast S1x26 b shapeCasts_S26_S1x26)
    (transpose S172x48 [1, 0] wo transposes_S48x172_S172x48_1_0) (shapeCast S1x48 bo shapeCasts_S48_S1x48)

/-- The result array after the run. -/
theorem final_eq (c : Dev nD) : (dats m 0 c).arrAt 5 cfg0.N
    = kernelFn (m ((c : Thread nD τ).loc main_arg0)) (m ((c : Thread nD τ).loc main_arg1)) (m ((c : Thread nD τ).loc main_arg2))
        (m ((c : Thread nD τ).loc main_arg3)) (m ((c : Thread nD τ).loc main_arg4)) := by
  refine ((dats m 0 c).arrAt_eq_of_cover 5 _ (fun t _ => flushed_eq m c t) covered).trans ?_
  have h0 : V m c main_v0 = transpose S128x26 [1, 0] (m ((c : Thread nD τ).loc main_arg1)) transposes_S26x128_S128x26_1_0 := by
    unfold_abbrev_sides; after_results
  have h1 : V m c main_v1 = shapeCast S1x26 (m ((c : Thread nD τ).loc main_arg2)) shapeCasts_S26_S1x26 := by
    unfold_abbrev_sides; after_results; rfl
  have h2 : V m c main_v2 = transpose S172x48 [1, 0] (m ((c : Thread nD τ).loc main_arg3)) transposes_S48x172_S172x48_1_0 := by
    unfold_abbrev_sides; after_results
  have h3 : V m c main_v3 = shapeCast S1x48 (m ((c : Thread nD τ).loc main_arg4)) shapeCasts_S48_S1x48 := by
    unfold_abbrev_sides; after_results; rfl
  rw [h0, h1, h2, h3, V_main_arg0]
  rfl

/-- The run of the kernel, with its result named. -/
theorem kernel_run : θ_run defs (onTc (τ := τ) (main (F := F))) ⟨m, fun _ => 0, ρ⟩ fun r => ∀ c : Dev nD,
      r.2.mem ((c : Thread nD τ).loc main_v4)
        = kernelFn (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_eq m c), (h c).2⟩) (run_blocks m ρ)

end Cert.GravNet
end
-- ==== Proof.GravNet.Select.lean ====
module

public import Mathlib.Data.Fintype.Card
public import Mathlib.Order.Fin.Basic
public import Mathlib.Algebra.BigOperators.Group.Finset.Basic
public import Mathlib.Data.Fintype.Fin
public import Mathlib.Tactic.Linarith

@[expose] public section

namespace Cert.GravNet

open Finset

variable {α : Type*} [LinearOrder α] {n : ℕ}

/-- How many entries are smaller than entry `i`. -/
def below (d : Fin n → α) (i : Fin n) : ℕ := #{r | d r < d i}

/-- The place of entry `i` in the stable order of the entries. -/
def place (d : Fin n → α) (i : Fin n) : ℕ := #{r | d r < d i ∨ (d r = d i ∧ r < i)}

/-- A smaller entry has fewer entries below it. -/
theorem below_lt {d : Fin n → α} {r i : Fin n} (h : d r < d i) : below d r < below d i := by
  apply card_lt_card
  refine ⟨fun x hx => ?_, fun hs => ?_⟩
  · simp only [mem_filter, mem_univ, true_and] at hx ⊢
    exact hx.trans h
  · have : r ∈ ({x | d x < d r} : Finset (Fin n)) := hs (by simpa using h)
    simp at this

/-- Counting the entries below orders them as they were. -/
theorem below_lt_iff (d : Fin n → α) (r i : Fin n) : below d r < below d i ↔ d r < d i := by
  refine ⟨fun h => ?_, below_lt⟩
  by_contra hn
  rcases (not_lt.mp hn).lt_or_eq with h' | h'
  · exact absurd (below_lt h') (by omega)
  · unfold below at h; rw [h'] at h; exact absurd h (lt_irrefl _)

/-- Entries with as many entries below them are equal. -/
theorem below_eq_iff (d : Fin n → α) (r i : Fin n) : below d r = below d i ↔ d r = d i := by
  refine ⟨fun h => ?_, fun h => by unfold below; rw [h]⟩
  rcases lt_trichotomy (d r) (d i) with h' | h' | h'
  · exact absurd (below_lt h') (by omega)
  · exact h'
  · exact absurd (below_lt h') (by omega)

/-- The place of an entry, by the counts below. -/
theorem place_below (d : Fin n → α) (i : Fin n) : place (below d) i = place d i := by
  unfold place
  simp only [below_lt_iff, below_eq_iff]

/-- A place splits into the smaller entries and the earlier equal ones. -/
theorem place_split (d : Fin n → α) (i : Fin n) : place d i = #{r | d r < d i} + #{r | d r = d i ∧ r < i} := by
  unfold place
  rw [← card_union_of_disjoint]
  · congr 1; ext r; simp
  · rw [disjoint_left]; intro r hr hr'
    simp only [mem_filter, mem_univ, true_and] at hr hr'
    exact absurd hr'.1 hr.ne

/-- Selecting by the threshold `t`, the least value with at least `K` keys up to it — every smaller key, and the first of
the equal ones — selects the first `K` places. -/
theorem select_iff (key : Fin n → ℕ) (K t : ℕ) (hge : K ≤ #{r | key r ≤ t}) (hlt : ∀ v < t, #{r | key r ≤ v} < K) (i : Fin n) :
    (key i < t ∨ (key i = t ∧ #{r | key r < t} + #{r | key r = t ∧ r < i} < K)) ↔ place key i < K := by
  rcases lt_trichotomy (key i) t with h | h | h
  · refine iff_of_true (.inl h) (lt_of_le_of_lt (card_le_card fun r hr => ?_) (hlt _ h))
    simp only [mem_filter, mem_univ, true_and] at hr ⊢
    rcases hr with hr | hr
    · exact hr.le
    · exact hr.1.le
  · rw [place_split, h]; simp
  · refine iff_of_false (fun hs => by rcases hs with hs | hs <;> omega) (not_lt.mpr (hge.trans (card_le_card fun r hr => ?_)))
    simp only [mem_filter, mem_univ, true_and] at hr ⊢
    exact .inl (by omega)

/-- In a strictly sorted listing of the entries, the `k`-th one has place `k`. -/
theorem place_listed {d : Fin n → α} {σ : Fin n → Fin n} (hσ : Function.Bijective σ)
    (hs : ∀ k k' : Fin n, k < k' → d (σ k) < d (σ k') ∨ (d (σ k) = d (σ k') ∧ σ k < σ k')) (k : Fin n) : place d (σ k) = k := by
  have : ({r | d r < d (σ k) ∨ (d r = d (σ k) ∧ r < σ k)} : Finset (Fin n)) = (Finset.Iio k).map ⟨σ, hσ.1⟩ := by
    ext r
    obtain ⟨k', rfl⟩ := hσ.2 r
    simp only [mem_filter, mem_univ, true_and, mem_map, mem_Iio, Function.Embedding.coeFn_mk]
    constructor
    · intro h
      refine ⟨k', ?_, rfl⟩
      by_contra hn
      rcases (not_lt.mp hn).lt_or_eq with h' | h'
      · rcases hs _ _ h' with h1 | h1 <;> rcases h with h2 | h2
        · exact absurd h1 h2.not_gt
        · exact absurd h1 (by rw [h2.1]; exact lt_irrefl _)
        · exact absurd h2 (by rw [h1.1]; exact lt_irrefl _)
        · exact absurd h1.2 h2.2.not_gt
      · subst h'; rcases h with h | h
        · exact absurd h (lt_irrefl _)
        · exact absurd h.2 (lt_irrefl _)
    · rintro ⟨k'', hk, he⟩
      rw [← he]; exact hs _ _ hk
  unfold place
  rw [this, card_map, Fin.card_Iio]

/-- Summing over the first `K` of a strictly sorted listing sums over the entries with a place below `K`. -/
theorem sum_listed {M : Type*} [AddCommMonoid M] {d : Fin n → α} {σ : Fin n → Fin n} (hσ : Function.Bijective σ)
    (hs : ∀ k k' : Fin n, k < k' → d (σ k) < d (σ k') ∨ (d (σ k) = d (σ k') ∧ σ k < σ k')) (K : ℕ) (hK : K ≤ n) (g : Fin n → M) :
    ∑ k : Fin K, g (σ (Fin.castLE hK k)) = ∑ i, if place d i < K then g i else 0 := by
  rw [← hσ.sum_comp (fun i => if place d i < K then g i else 0), ← Finset.sum_filter]
  simp only [place_listed hσ hs]
  refine Finset.sum_bij (fun k _ => Fin.castLE hK k) (fun k _ => by simp) (fun a _ b _ h => Fin.castLE_injective hK h) (fun k hk => ?_) (fun _ _ => rfl)
  simp only [mem_filter, mem_univ, true_and] at hk
  exact ⟨⟨k, hk⟩, mem_univ _, rfl⟩

/-- An entry has a place below `K` just when it is among the first `K` of a strictly sorted listing. -/
theorem place_lt_iff {d : Fin n → α} {σ : Fin n → Fin n} (hσ : Function.Bijective σ)
    (hs : ∀ k k' : Fin n, k < k' → d (σ k) < d (σ k') ∨ (d (σ k) = d (σ k') ∧ σ k < σ k')) (K : ℕ) (hK : K ≤ n) (i : Fin n) :
    place d i < K ↔ ∃ k : Fin K, σ (Fin.castLE hK k) = i := by
  obtain ⟨k, rfl⟩ := hσ.2 i
  rw [place_listed hσ hs]
  exact ⟨fun h => ⟨⟨k, h⟩, rfl⟩, fun ⟨k', h⟩ => by rw [← hσ.1 h]; exact k'.2⟩

/-- One step of a bisection keeps: the bracket holds the least value of which `P` holds, and is halved. -/
structure Bracket (P : ℕ → Prop) (B : ℕ) (lo hi : ℕ) : Prop where
  le : lo ≤ hi
  top : P hi
  bot : ∀ v < lo, ¬ P v
  width : hi - lo < B

/-- The half of the bracket that a midpoint with `P` leaves. -/
theorem Bracket.low {P : ℕ → Prop} {B lo hi : ℕ} (h : Bracket P (2 * B) lo hi) (hB : 0 < B) (hP : P (lo + (hi - lo) / 2)) :
    Bracket P B lo (lo + (hi - lo) / 2) :=
  ⟨by omega, hP, h.bot, by have := h.width; omega⟩

/-- The half of the bracket that a midpoint without `P` leaves. -/
theorem Bracket.high {P : ℕ → Prop} {B lo hi : ℕ} (mono : ∀ v w, v ≤ w → P v → P w) (h : Bracket P (2 * B) lo hi)
    (hP : ¬ P (lo + (hi - lo) / 2)) : Bracket P B (lo + (hi - lo) / 2 + 1) hi := by
  have hw := h.width
  have hl := h.le
  refine ⟨?_, h.top, fun v hv hPv => hP (mono _ _ (by omega) hPv), by omega⟩
  by_contra hn
  have : lo + (hi - lo) / 2 = hi := by omega
  rw [this] at hP
  exact hP h.top

end Cert.GravNet
-- ==== Proof.GravNet.Rank.lean ====
module

public import proofs.«01_k».proof.Proof.GravNet.Form
public import proofs.«01_k».proof.Proof.GravNet.Select
public import Idealize.ShloMosaic.Lib.Pointwise
public import Idealize.ShloMosaic.Lib.WordCmp
public import Idealize.ShloMosaic.PureOps.Ideal

@[expose] public section

noncomputable section

namespace Cert.GravNet

open Idealize.ShloMosaic Idealize.ShloMosaic.WordCmp Idealize.SL.Sem Cert.KernelIdeal Cert.KernelIdeal.Gen

/-! ## Counts as extended reals -/

/-- The constant 40. -/
theorem bits_forty : Ideal.ofBits .f32 0x42200000#32 = ((40 : ℕ) : EReal) := by
  simp [Ideal.ofBits, Ideal.ieee, -EReal.coe_mul]; norm_num; norm_cast

/-- A truth value as a float. -/
theorem sitofp_bit (b : Bool) : FloatOps.sitofp (F := Ideal) .f32 (BitVec.setWidth 32 (BitVec.ofBool b)) = if b then 1 else 0 := by
  cases b
  · show (((BitVec.setWidth 32 (BitVec.ofBool false)).toInt : ℝ) : EReal) = 0
    norm_num
  · show (((BitVec.setWidth 32 (BitVec.ofBool true)).toInt : ℝ) : EReal) = 1
    rw [show (BitVec.setWidth 32 (BitVec.ofBool true)).toInt = 1 from by decide]
    norm_num

/-- The sum of truth values is their count. -/
theorem sum_bits {n : ℕ} (p : Fin n → Prop) [DecidablePred p] :
    ∑ x, FloatOps.sitofp (F := Ideal) .f32 (BitVec.setWidth 32 (BitVec.ofBool (decide (p x)))) = ((Finset.card {x | p x} : ℕ) : EReal) := by
  simp only [sitofp_bit, decide_eq_true_eq]
  exact Finset.sum_boole _ _

/-- The sum of products of truth values is a count. -/
theorem sum_bits_mul {n : ℕ} (p q : Fin n → Prop) [DecidablePred p] [DecidablePred q] :
    ∑ x, FloatOps.sitofp (F := Ideal) .f32 (BitVec.setWidth 32 (BitVec.ofBool (decide (p x))))
        * FloatOps.sitofp (F := Ideal) .f32 (BitVec.setWidth 32 (BitVec.ofBool (decide (q x))))
      = ((Finset.card {x | q x ∧ p x} : ℕ) : EReal) := by
  simp only [sitofp_bit, decide_eq_true_eq]
  rw [← Finset.sum_boole]
  refine Finset.sum_congr rfl fun x _ => ?_
  by_cases hp : p x <;> by_cases hq : q x <;> simp [hp, hq]

/-- The order of counts. -/
theorem count_le (a b : ℕ) : ((a : EReal) ≤ (b : EReal)) ↔ a ≤ b := by exact_mod_cast Iff.rfl

/-- A count is below what another leaves of 40. -/
theorem count_lt_sub (a b : ℕ) : ((a : EReal) < ((40 : ℕ) : EReal) - (b : EReal)) ↔ b + a < 40 := by
  rw [← EReal.coe_coe_eq_natCast, ← EReal.coe_coe_eq_natCast, ← EReal.coe_coe_eq_natCast, ← EReal.coe_sub, EReal.coe_lt_coe_iff]
  constructor
  · intro h
    have : (b : ℝ) + a < (40 : ℕ) := by linarith
    exact_mod_cast this
  · intro h
    have : (b : ℝ) + a < (40 : ℕ) := by exact_mod_cast h
    linarith

/-! ## The keys -/

/-- One trip of the loop of the keys. -/
def rstep (sq : FVec Ideal S512x2048 .f32) (p : FVec Ideal S512x2048 .f32 × IVec S512x2048 32) :
    FVec Ideal S512x2048 .f32 × IVec S512x2048 32 :=
  (k0_pay13 p.1, addi p.2 (extui 32 (cmpf .olt (k0_pay13 p.1) sq) natLt_1_32))

/-- The loop of the keys is its trip, iterated. -/
theorem keyAll_eq (sq : FVec Ideal S512x2048 .f32) : keyAll sq = ((rstep sq)^[512] (sq, k0_pay12)).2 := by
  unfold keyAll
  rw [Scf.fold_eq]
  have h : k0_t1_loop.trips = 512 := by decide
  have := List.foldl_const (rstep sq) (sq, k0_pay12) (List.finRange k0_t1_loop.trips)
  rw [List.length_finRange, h] at this
  exact congrArg Prod.snd this

/-- The squared distances turned by one row. -/
theorem turn_apply (rot : FVec Ideal S512x2048 .f32) (i : Fin 512) (j : Fin 2048) :
    k0_pay13 rot (ix2 i j) = rot (ix2 ⟨(i + 1) % 512, Nat.mod_lt _ (by norm_num)⟩ j) := by
  pointwise [k0_pay13]
  by_cases h : (i : ℕ) < 511
  · rw [dif_pos h]; congr 2; apply Fin.ext; simp only []; omega
  · rw [dif_neg h]; congr 2; apply Fin.ext; simp only []; omega

/-- After `n` trips the rows are turned by `n`, and the smaller entries among the `n` rows after a row are counted. -/
theorem rstep_iter (sq : FVec Ideal S512x2048 .f32) (n : ℕ) (i : Fin 512) (j : Fin 2048) :
    ((rstep sq)^[n] (sq, k0_pay12)).1 (ix2 i j) = sq (ix2 ⟨(i + n) % 512, Nat.mod_lt _ (by norm_num)⟩ j)
    ∧ ((rstep sq)^[n] (sq, k0_pay12)).2 (ix2 i j)
      = BitVec.ofNat 32 (Finset.card {k ∈ Finset.range n | sq (ix2 ⟨(i + (k + 1)) % 512, Nat.mod_lt _ (by norm_num)⟩ j) < sq (ix2 i j)}) := by
  induction n generalizing i with
  | zero =>
    refine ⟨?_, rfl⟩
    show sq (ix2 i j) = _
    congr 2; apply Fin.ext; simp only []; have := i.2; omega
  | succ n ih =>
    rw [Function.iterate_succ_apply']
    generalize hp : (rstep sq)^[n] (sq, k0_pay12) = p at ih
    have hrot : k0_pay13 p.1 (ix2 i j) = sq (ix2 ⟨(i + (n + 1)) % 512, Nat.mod_lt _ (by norm_num)⟩ j) := by
      rw [turn_apply, (ih _).1]
      congr 2; apply Fin.ext; simp only []; omega
    refine ⟨hrot, ?_⟩
    have h2 : (rstep sq p).2 (ix2 i j)
        = IntOp.addi (p.2 (ix2 i j)) (BitVec.setWidth 32 (BitVec.ofBool (decide (k0_pay13 p.1 (ix2 i j) < sq (ix2 i j))))) := by
      show addi p.2 (extui 32 (cmpf .olt (k0_pay13 p.1) sq) natLt_1_32) (ix2 i j) = _
      generalize k0_pay13 p.1 = rot
      pointwise
    rw [h2, (ih i).2, hrot, Finset.range_add_one, Finset.filter_insert]
    by_cases hlt : sq (ix2 ⟨(i + (n + 1)) % 512, Nat.mod_lt _ (by norm_num)⟩ j) < sq (ix2 i j)
    · rw [if_pos hlt, Finset.card_insert_of_notMem (by simp), decide_eq_true hlt, BitVec.ofNat_add]
      rfl
    · rw [if_neg hlt, decide_eq_false hlt]
      exact BitVec.add_zero _

/-- The key of an entry is the count of the entries of its column below it. -/
theorem key_apply (sq : FVec Ideal S512x2048 .f32) (i : Fin 512) (j : Fin 2048) :
    keyAll sq (ix2 i j) = BitVec.ofNat 32 (below (fun r : Fin 512 => sq (ix2 r j)) i) := by
  rw [keyAll_eq, (rstep_iter sq 512 i j).2]
  congr 1
  unfold below
  refine Finset.card_bij (fun k _ => ⟨(i + (k + 1)) % 512, Nat.mod_lt _ (by norm_num)⟩) (fun k hk => ?_) (fun a ha b hb h => ?_) (fun r hr => ?_)
  · simp only [Finset.mem_filter, Finset.mem_univ, true_and] at hk ⊢
    exact hk.2
  · simp only [Finset.mem_filter, Finset.mem_range, Fin.mk.injEq] at ha hb h
    omega
  · simp only [Finset.mem_filter, Finset.mem_univ, true_and] at hr
    have e : (⟨(i + ((r + 511 - i) % 512 + 1)) % 512, Nat.mod_lt _ (by norm_num)⟩ : Fin 512) = r := by
      apply Fin.ext; simp only []; have := i.2; have := r.2; omega
    refine ⟨(r + 511 - i) % 512, ?_, e⟩
    simp only [Finset.mem_filter, Finset.mem_range]
    exact ⟨Nat.mod_lt _ (by norm_num), by rw [e]; exact hr⟩

/-- A count of rows is less than 513. -/
theorem below_lt_size (d : Fin 512 → EReal) (i : Fin 512) : below d i < 513 := by
  unfold below
  exact lt_of_le_of_lt (Finset.card_le_univ _) (by simp)

/-! ## The thresholds -/

/-- The bracket of a column, as naturals. -/
def HasBracket (key : Fin 512 → ℕ) (B : ℕ) (lo hi : BitVec 32) : Prop :=
  hi.toNat < 2 ^ 31 ∧ Bracket (fun v => 40 ≤ Finset.card {r | key r ≤ v}) B lo.toNat hi.toNat

/-- Whether a bound has enough keys up to it. -/
theorem enough_apply (key : IVec S512x1024 32) (k : Fin 512 → ℕ) (v : IVec S1x1024 32) (j : Fin 1024)
    (hk : ∀ i, key (ix2 i j) = BitVec.ofNat 32 (k i)) (hk' : ∀ i, k i < 513) (hv : (v (ix2 0 j)).toNat < 2 ^ 31) :
    enough Ideal key v (ix2 0 j) = BitVec.ofBool (decide (40 ≤ Finset.card {r | k r ≤ (v (ix2 0 j)).toNat})) := by
  have hc : ∀ i, IntOp.cmpi .sle (key (ix2 i j)) (v (ix2 0 j)) = BitVec.ofBool (decide (k i ≤ (v (ix2 0 j)).toNat)) := fun i => by
    have e : (BitVec.ofNat 32 (k i)).toNat = k i := by
      rw [BitVec.toNat_ofNat]; exact Nat.mod_eq_of_lt (by have := hk' i; omega)
    rw [hk, cmpi_sle_of_lt (by rw [e]; have := hk' i; omega) hv, e]
  pointwise [enough, k0_pay15]
  simp only [hc, sum_bits, bits_forty, count_le]

/-- One step of the bisection halves the bracket. -/
theorem bstep_bracket (key : IVec S512x1024 32) (k : Fin 512 → ℕ) (j : Fin 1024)
    (hk : ∀ i, key (ix2 i j) = BitVec.ofNat 32 (k i)) (hk' : ∀ i, k i < 513) (B : ℕ) (hB : 0 < B)
    (p : IVec S1x1024 32 × IVec S1x1024 32) (h : HasBracket k (2 * B) (p.1 (ix2 0 j)) (p.2 (ix2 0 j))) :
    HasBracket k B ((bstep Ideal key p).1 (ix2 0 j)) ((bstep Ideal key p).2 (ix2 0 j)) := by
  obtain ⟨hhi, hb⟩ := h
  have hle := hb.le
  have hm : (mid p (ix2 0 j)).toNat = (p.1 (ix2 0 j)).toNat + ((p.2 (ix2 0 j)).toNat - (p.1 (ix2 0 j)).toNat) / 2 := by
    have e : mid p (ix2 0 j) = p.1 (ix2 0 j) + (p.2 (ix2 0 j) - p.1 (ix2 0 j)) >>> (1#32) := rfl
    rw [e]
    generalize p.1 (ix2 0 j) = lo at *
    generalize p.2 (ix2 0 j) = hi at *
    have hs : (hi - lo).toNat = hi.toNat - lo.toNat := by rw [BitVec.toNat_sub]; omega
    have h1 : (1#32).toNat = 1 := rfl
    rw [BitVec.toNat_add, BitVec.ushiftRight_eq', BitVec.toNat_ushiftRight, hs, Nat.shiftRight_eq_div_pow, h1, pow_one]
    omega
  have he := enough_apply key k (mid p) j hk hk' (by rw [hm]; omega)
  have e1 : (bstep Ideal key p).1 (ix2 0 j) = Scalar.select (enough Ideal key (mid p) (ix2 0 j)) (p.1 (ix2 0 j)) (mid p (ix2 0 j) + 1#32) := by
    unfold bstep; generalize enough Ideal key (mid p) = E; generalize mid p = M; rfl
  have e2 : (bstep Ideal key p).2 (ix2 0 j) = Scalar.select (enough Ideal key (mid p) (ix2 0 j)) (mid p (ix2 0 j)) (p.2 (ix2 0 j)) := by
    unfold bstep; generalize enough Ideal key (mid p) = E; generalize mid p = M; rfl
  rw [e1, e2, he]
  by_cases hP : 40 ≤ Finset.card {r | k r ≤ (mid p (ix2 0 j)).toNat}
  · rw [decide_eq_true hP]
    refine ⟨?_, ?_⟩
    · show (mid p (ix2 0 j)).toNat < 2 ^ 31
      rw [hm]; omega
    · show Bracket _ B (p.1 (ix2 0 j)).toNat (mid p (ix2 0 j)).toNat
      rw [hm] at hP ⊢
      exact hb.low hB hP
  · rw [decide_eq_false hP]
    refine ⟨hhi, ?_⟩
    show Bracket _ B (mid p (ix2 0 j) + 1#32).toNat (p.2 (ix2 0 j)).toNat
    have e3 : (mid p (ix2 0 j) + 1#32).toNat = (mid p (ix2 0 j)).toNat + 1 := by
      rw [BitVec.toNat_add]; simp only [BitVec.toNat_ofNat]; omega
    rw [e3]
    rw [hm] at hP ⊢
    refine hb.high (fun v w hvw hv => hv.trans (Finset.card_le_card fun r hr => ?_)) hP
    simp only [Finset.mem_filter, Finset.mem_univ, true_and] at hr ⊢
    omega

/-- The bracket after `n` steps. -/
theorem bstep_iter (key : IVec S512x1024 32) (k : Fin 512 → ℕ) (j : Fin 1024)
    (hk : ∀ i, key (ix2 i j) = BitVec.ofNat 32 (k i)) (hk' : ∀ i, k i < 513) (n : ℕ) (hn : n ≤ 31) :
    HasBracket k (2 ^ (31 - n)) (((bstep Ideal key)^[n] bracket0).1 (ix2 0 j)) (((bstep Ideal key)^[n] bracket0).2 (ix2 0 j)) := by
  induction n with
  | zero =>
    have hc : Finset.card {r | k r ≤ 2139095040} = 512 := by
      rw [Finset.filter_true_of_mem fun r _ => by have := hk' r; omega]; simp
    show HasBracket k (2 ^ 31) 0#32 2139095040#32
    refine ⟨by decide, ⟨Nat.zero_le _, ?_, fun v hv => absurd hv (Nat.not_lt_zero _), by decide⟩⟩
    show 40 ≤ Finset.card {r | k r ≤ 2139095040}
    rw [hc]; norm_num
  | succ n ih =>
    rw [Function.iterate_succ_apply']
    refine bstep_bracket key k j hk hk' _ (by positivity) _ ?_
    have e : 2 * 2 ^ (31 - (n + 1)) = 2 ^ (31 - n) := by
      rw [← pow_succ']; congr 1; omega
    rw [e]
    exact ih (by omega)

/-- The threshold of a column is the least value with 40 keys up to it. -/
def IsThreshold (key : Fin 512 → ℕ) (t : BitVec 32) : Prop :=
  t.toNat < 2 ^ 31 ∧ 40 ≤ Finset.card {r | key r ≤ t.toNat} ∧ ∀ v < t.toNat, Finset.card {r | key r ≤ v} < 40

/-- What 31 steps leave is the threshold. -/
theorem bstep_threshold (key : IVec S512x1024 32) (k : Fin 512 → ℕ) (j : Fin 1024)
    (hk : ∀ i, key (ix2 i j) = BitVec.ofNat 32 (k i)) (hk' : ∀ i, k i < 513) :
    IsThreshold k (((bstep Ideal key)^[31] bracket0).1 (ix2 0 j)) := by
  obtain ⟨hhi, hb⟩ := bstep_iter key k j hk hk' 31 le_rfl
  have hw := hb.width
  have hl := hb.le
  have e : (((bstep Ideal key)^[31] bracket0).1 (ix2 0 j)).toNat = (((bstep Ideal key)^[31] bracket0).2 (ix2 0 j)).toNat := by omega
  refine ⟨by omega, ?_, fun v hv => not_le.mp (hb.bot v hv)⟩
  have := hb.top
  rw [← e] at this
  exact this

/-- The threshold of each column, for keys given as naturals. -/
theorem thresh_apply (key : IVec S512x2048 32) (k : Fin 512 → ℕ) (j : Fin 2048)
    (hk : ∀ i, key (ix2 i j) = BitVec.ofNat 32 (k i)) (hk' : ∀ i, k i < 513) : IsThreshold k (thresh Ideal key (ix2 0 j)) := by
  have e : thresh Ideal key (ix2 0 j) = (if h : (j : ℕ) < 1024 then ((bstep Ideal (k0_pay16 key))^[31] bracket0).1 (ix2 0 ⟨j, h⟩)
      else ((bstep Ideal (k0_pay17 key))^[31] bracket0).1 (ix2 0 ⟨j - 1024, by omega⟩)) := by
    pointwise [thresh]
  rw [e]
  by_cases h : (j : ℕ) < 1024
  · rw [dif_pos h]
    refine bstep_threshold _ k _ (fun i => ?_) hk'
    have : k0_pay16 key (ix2 i ⟨j, h⟩) = key (ix2 i j) := by
      pointwise [k0_pay16]
    rw [this, hk]
  · rw [dif_neg h]
    refine bstep_threshold _ k _ (fun i => ?_) hk'
    have : k0_pay17 key (ix2 i ⟨j - 1024, by omega⟩) = key (ix2 i j) := by
      pointwise [k0_pay17]
      congr 2; apply Fin.ext; simp only []; omega
    rw [this, hk]

/-! ## The weights -/

/-- The weight of an entry: an exponential for the first 40 places of its column, zero for the others. -/
theorem weights_apply (s : FVec Ideal S2048x4 .f32) (i : Fin 512) (j : Fin 2048) :
    weights s (ix2 i j) = if place (fun r : Fin 512 => sqAll s (ix2 r j)) i < 40
      then Ideal.exp (Ideal.ofBits .f32 0xC1200000#32 * sqAll s (ix2 i j)) else 0 := by
  unfold weights
  generalize sqAll s = sq
  set d : Fin 512 → EReal := fun r => sq (ix2 r j) with hd
  have hk : ∀ r, keyAll sq (ix2 r j) = BitVec.ofNat 32 (below d r) := fun r => key_apply sq r j
  have hk' := below_lt_size d
  obtain ⟨ht, hge, hlt⟩ := thresh_apply (keyAll sq) (below d) j hk hk'
  have hsel := select_iff (below d) 40 _ hge hlt i
  rw [place_below] at hsel
  generalize keyAll sq = key at *
  generalize thresh Ideal key = t at *
  have hn : ∀ r, (BitVec.ofNat 32 (below d r)).toNat = below d r := fun r => by
    rw [BitVec.toNat_ofNat]; exact Nat.mod_eq_of_lt (by have := hk' r; omega)
  have c1 : ∀ r, IntOp.cmpi .slt (key (ix2 r j)) (t (ix2 0 j)) = BitVec.ofBool (decide (below d r < (t (ix2 0 j)).toNat)) := fun r => by
    rw [hk, cmpi_slt_of_lt (by rw [hn]; have := hk' r; omega) ht, hn]
  have c2 : ∀ r, IntOp.cmpi .eq (key (ix2 r j)) (t (ix2 0 j)) = BitVec.ofBool (decide (below d r = (t (ix2 0 j)).toNat)) := fun r => by
    rw [hk, cmpi_eq_eq_toNat, hn]
  have c3 : ∀ r : Fin 512, IntOp.cmpi .sgt (BitVec.ofNat 32 (i : ℕ)) (BitVec.ofNat 32 (r : ℕ)) = BitVec.ofBool (decide (r < i)) := fun r => by
    rw [cmpi_sgt_ofNat (by have := i.2; omega) (by have := r.2; omega)]
    rfl
  pointwise [k0_pay276, k0_pay15]
  simp only [c1, c2, c3, sum_bits, sum_bits_mul, bits_forty, count_lt_sub]
  by_cases h : place d i < 40
  · rw [if_pos h]
    rcases hsel.mpr h with h1 | h1
    · rw [decide_eq_true h1]
      have : ∀ b : Bool, IntOp.ori (BitVec.ofBool true) (IntOp.andi (BitVec.ofBool (decide (below d i = (t (ix2 0 j)).toNat))) (BitVec.ofBool b)) = 1 := by
        intro b; cases b <;> cases decide (below d i = (t (ix2 0 j)).toNat) <;> rfl
      rw [this]; rfl
    · rw [decide_eq_true h1.1, decide_eq_true h1.2, h1.1, decide_eq_false (lt_irrefl _)]; rfl
  · rw [if_neg h]
    have h1 := mt hsel.mp h
    rw [not_or, not_and_or] at h1
    rw [decide_eq_false h1.1]
    rcases h1.2 with h2 | h2
    · rw [decide_eq_false h2]
      have : ∀ b : Bool, IntOp.ori (BitVec.ofBool false) (IntOp.andi (BitVec.ofBool false) (BitVec.ofBool b)) = 0 := by
        intro b; cases b <;> rfl
      rw [this]; rfl
    · rw [decide_eq_false h2]
      have : ∀ b : Bool, IntOp.ori (BitVec.ofBool false) (IntOp.andi (BitVec.ofBool b) (BitVec.ofBool false)) = 0 := by
        intro b; cases b <;> rfl
      rw [this]; rfl

end Cert.GravNet
end
-- ==== Proof.GravNet.Model.lean ====
module

public import Idealize.ShloMosaic.PureOps.Ideal
public import proofs.«01_k».proof.Proof.GravNet.Select

@[expose] public section

noncomputable section

namespace Cert.GravNet

open Idealize.ShloMosaic

/-- An input feature, or, in the second half, the mean of one over the vertices of the batch entry. -/
def feat (x : Fin 4 → Fin 512 → Fin 64 → EReal) (b : Fin 4) (v : Fin 512) (c : Fin 128) : EReal :=
  if h : (c : ℕ) < 64 then x b v ⟨c, h⟩
  else Ideal.div (∑ r, x b r ⟨c - 64, by omega⟩) (Ideal.ofBits .f32 0x44000000#32)

/-- The learned transformation: a linear map of the features, cut off below at zero. -/
def slr (x : Fin 4 → Fin 512 → Fin 64 → EReal) (w : Fin 26 → Fin 128 → EReal) (β : Fin 26 → EReal) (b : Fin 4)
    (v : Fin 512) (o : Fin 26) : EReal :=
  max (∑ c, feat x b v c * w o c + β o) 0

/-- The position of a vertex in the learned space. -/
def pos (x : Fin 4 → Fin 512 → Fin 64 → EReal) (w : Fin 26 → Fin 128 → EReal) (β : Fin 26 → EReal) (b : Fin 4)
    (v : Fin 512) (a : Fin 4) : EReal :=
  slr x w β b v ⟨a, by omega⟩

/-- The learned features of a vertex. -/
def lrn (x : Fin 4 → Fin 512 → Fin 64 → EReal) (w : Fin 26 → Fin 128 → EReal) (β : Fin 26 → EReal) (b : Fin 4)
    (v : Fin 512) (f : Fin 22) : EReal :=
  slr x w β b v ⟨4 + f, by omega⟩

/-- The output layer: a linear map of the features, the means `m` and the maxima `g`, cut off below at zero. -/
def outp (x : Fin 4 → Fin 512 → Fin 64 → EReal) (m g : Fin 4 → Fin 512 → Fin 22 → EReal) (wo : Fin 48 → Fin 172 → EReal)
    (bo : Fin 48 → EReal) (b : Fin 4) (v : Fin 512) (o : Fin 48) : EReal :=
  max (∑ c : Fin 172,
      (if h : (c : ℕ) < 128 then feat x b v ⟨c, h⟩
        else if h' : (c : ℕ) - 128 < 22 then m b v ⟨c - 128, h'⟩ else g b v ⟨c - 128 - 22, by omega⟩) * wo o c + bo o) 0

end Cert.GravNet
end
-- ==== Proof.GravNet.KernelValue.lean ====
module

public import proofs.«01_k».proof.Proof.GravNet.Output
public import proofs.«01_k».proof.Proof.GravNet.Rank
public import proofs.«01_k».proof.Proof.GravNet.Model

@[expose] public section

noncomputable section

namespace Cert.GravNet

open Idealize.ShloMosaic Idealize.ShloMosaic.TcCoe Idealize.SL.Sem Cert.KernelIdeal Cert.KernelIdeal.Gen

/-- The row of vertex `v` of batch entry `b` among all 2048 rows. -/
def row (b : Fin 4) (v : Fin 512) : Fin 2048 := ⟨b * 512 + v, by omega⟩

/-- A choice among four quarters of the rows, by the row. -/
theorem pick_quarter {α : Type} (A : Fin 4 → Fin 512 → α) (b : Fin 4) (v : Fin 512) :
    (if h : b * 512 + (v : ℕ) < 512 then A 0 ⟨b * 512 + v, h⟩
      else if h : b * 512 + (v : ℕ) - 512 < 512 then A 1 ⟨b * 512 + v - 512, h⟩
      else if h : b * 512 + (v : ℕ) - 512 - 512 < 512 then A 2 ⟨b * 512 + v - 512 - 512, h⟩
      else A 3 ⟨b * 512 + v - 512 - 512 - 512, by omega⟩) = A b v := by
  have hv := v.isLt
  match b with
  | ⟨0, _⟩ => rw [dif_pos (by simp)]; exact congrArg (A 0) (Fin.ext (by simp))
  | ⟨1, _⟩ => rw [dif_neg (by simp), dif_pos (by simp)]; exact congrArg (A 1) (Fin.ext (by simp))
  | ⟨2, _⟩ =>
    rw [dif_neg (by simp; omega), dif_neg (by simp; omega), dif_pos (by simp; omega)]
    exact congrArg (A 2) (Fin.ext (by simp; omega))
  | ⟨3, _⟩ =>
    rw [dif_neg (by simp; omega), dif_neg (by simp; omega), dif_neg (by simp; omega)]
    exact congrArg (A 3) (Fin.ext (by simp; omega))

/-- The learned transformation of the kernel at an index. -/
theorem pay2_apply (f : FVec Ideal S2048x128 .f32) (w : Vec Ideal S128x26 .f32) (b : Vec Ideal S1x26 .f32) (i : Fin 2048) (o : Fin 26) :
    k0_pay2 f w b (ix2 i o) = max (∑ c, f (ix2 i c) * w (ix2 c o) + b (ix2 0 o)) 0 := by
  pointwise [k0_pay2]

/-- The positions of the kernel at an index. -/
theorem pay3_apply (f : FVec Ideal S2048x128 .f32) (w : Vec Ideal S128x26 .f32) (b : Vec Ideal S1x26 .f32) (i : Fin 2048) (o : Fin 4) :
    k0_pay3 f w b (ix2 i o) = max (∑ c, f (ix2 i c) * w (ix2 c ⟨o, by omega⟩) + b (ix2 0 ⟨o, by omega⟩)) 0 := by
  pointwise [k0_pay3]
  exact pay2_apply f w b i _

/-- The learned features of the kernel at an index. -/
theorem pay4_apply (f : FVec Ideal S2048x128 .f32) (w : Vec Ideal S128x26 .f32) (b : Vec Ideal S1x26 .f32) (i : Fin 2048) (o : Fin 22) :
    k0_pay4 f w b (ix2 i o) = max (∑ c, f (ix2 i c) * w (ix2 c ⟨4 + o, by omega⟩) + b (ix2 0 ⟨4 + o, by omega⟩)) 0 := by
  pointwise [k0_pay4]
  exact pay2_apply f w b i _

/-- The squared distances of one batch entry at an index: the Gram form. -/
theorem sqBlock_apply (s : FVec Ideal S512x4 .f32) (i j : Fin 512) :
    sqBlock s (ix2 i j) = max ((∑ a, s (ix2 i a) * s (ix2 i a) + ∑ a, Ideal.ofBits .f32 0x3F800000#32 * (s (ix2 j a) * s (ix2 j a))) - Ideal.ofBits .f32 0x40000000#32 * ∑ a, s (ix2 i a) * s (ix2 j a)) 0 := by
  pointwise [sqBlock, k0_pay5]

/-- The means of the kernel at an index. -/
theorem meanBlock_apply (w wlo : FVec Ideal S512x512 .bf16) (l llo : FVec Ideal S512x22 .bf16) (j : Fin 512) (f : Fin 22) :
    meanBlock w wlo l llo (ix2 j f)
      = (∑ i, w (ix2 i j) * l (ix2 i f) + ∑ i, w (ix2 i j) * llo (ix2 i f) + ∑ i, wlo (ix2 i j) * l (ix2 i f))
        * Named.named (F := Ideal) (φ := .f32) κ "inv_k" 0x3CCCCCCD#32 := by
  pointwise [meanBlock]

/-- One row of maxima of the kernel at an index. -/
theorem maxRow_apply (w : FVec Ideal S512x512 .bf16) (l : FVec Ideal S512x22 .bf16) (f : Fin 22) (h : S512x22.Slices ![0, (f : ℕ)] S512x1) (j : Fin 512) :
    maxRow w l f h (ix2 0 j) = Finset.fold max (Ideal.ofBits .bf16 0xFF80#16) (fun i => w (ix2 i j) * l (ix2 i f)) Finset.univ := by
  pointwise [maxRow]

/-- Every column of the learned features is a slice of them. -/
theorem col_fits : ∀ f : Fin 22, S512x22.Slices ![0, (f : ℕ)] S512x1 := by decide

/-- The rows of maxima, as a list over the features. -/
theorem rows_fit (w : FVec Ideal S512x512 .bf16) (l : FVec Ideal S512x22 .bf16) :
    Shape.Concatenates ((List.ofFn fun f : Fin 22 => (⟨S1x512, maxRow w l f (col_fits f)⟩ : (s : Shape) × (s.Idx → Ideal .bf16))).map (·.1)) S22x512 0 := by
  rw [List.map_ofFn]
  exact (by decide : Shape.Concatenates (List.ofFn fun _ : Fin 22 => S1x512) S22x512 0)

/-- The maxima of the kernel, written with the list of the rows over the features. -/
theorem maxBlock_eq (w : FVec Ideal S512x512 .bf16) (l : FVec Ideal S512x22 .bf16) :
    maxBlock w l = extf .f32 (transpose S512x22 [1, 0]
      (concatenate S22x512 0 (List.ofFn fun f : Fin 22 => (⟨S1x512, maxRow w l f (col_fits f)⟩ : (s : Shape) × (s.Idx → Ideal .bf16))) (rows_fit w l))
      transposes_S22x512_p1_0_S512x22) bitsLt_bf16_f32 := by
  rfl

/-- The maxima of the kernel at an index. -/
theorem maxBlock_apply (w : FVec Ideal S512x512 .bf16) (l : FVec Ideal S512x22 .bf16) (f : Fin 22) (j : Fin 512) :
    maxBlock w l (ix2 j f) = Finset.fold max (Ideal.ofBits .bf16 0xFF80#16) (fun i => w (ix2 i j) * l (ix2 i f)) Finset.univ := by
  rw [maxBlock_eq, ← maxRow_apply w l f (col_fits f) j]
  pointwise

/-- The features of the kernel at an index. -/
theorem feats_apply (x : Vec Ideal S4x512x64 .f32) (b : Fin 4) (v : Fin 512) (c : Fin 128) :
    feats x (ix2 (row b v) c) = feat (fun b v c => x (ix3 b v c)) b v c := by
  unfold row feat
  pointwise [feats, k0_pay1, entry]
  exact pick_quarter (fun b v => if h : (c : ℕ) < 64 then x (ix3 b v ⟨c, h⟩)
    else Ideal.div (∑ r, x (ix3 b r ⟨c - 64, by omega⟩)) (Ideal.ofBits .f32 0x44000000#32)) b v

/-- Every quarter of the rows is a slice of them. -/
theorem quarter_fits : ∀ b : Fin 4, S2048x4.Slices ![(b : ℕ) * 512, 0] S512x4 := by decide

/-- A quarter of the positions. -/
def quarter (s : FVec Ideal S2048x4 .f32) (b : Fin 4) : FVec Ideal S512x4 .f32 :=
  extractStridedSlice S512x4 ![(b : ℕ) * 512, 0] s (quarter_fits b)

/-- A quarter of the positions at an index. -/
theorem quarter_apply (s : FVec Ideal S2048x4 .f32) (b : Fin 4) (i : Fin 512) (a : Fin 4) :
    quarter s b (ix2 i a) = s (ix2 (row b i) a) := by
  unfold row
  pointwise [quarter]

/-- The squared distances of batch entry `b`, among those of all entries. -/
theorem sqAll_apply (s : FVec Ideal S2048x4 .f32) (b : Fin 4) (i j : Fin 512) :
    sqAll s (ix2 i (row b j)) = max ((∑ a, s (ix2 (row b i) a) * s (ix2 (row b i) a) + ∑ a, Ideal.ofBits .f32 0x3F800000#32 * (s (ix2 (row b j) a) * s (ix2 (row b j) a)))
      - Ideal.ofBits .f32 0x40000000#32 * ∑ a, s (ix2 (row b i) a) * s (ix2 (row b j) a)) 0 := by
  have h : sqAll s (ix2 i (row b j)) = sqBlock (quarter s b) (ix2 i j) := by
    unfold row
    pointwise [sqAll]
    exact pick_quarter (fun b j => sqBlock (quarter s b) (ix2 i j)) b j
  rw [h, sqBlock_apply]
  simp only [quarter_apply]

/-- The output layer of the kernel at an index. -/
theorem outLayer_apply (x2 : FVec Ideal S2048x128 .f32) (m g : Fin 4 → FVec Ideal S512x22 .f32) (wo : Vec Ideal S172x48 .f32)
    (bo : Vec Ideal S1x48 .f32) (b : Fin 4) (v : Fin 512) (o : Fin 48) :
    outLayer x2 (m 0) (m 1) (m 2) (m 3) (g 0) (g 1) (g 2) (g 3) wo bo (ix3 b v o)
      = max (∑ c : Fin 172,
        (if h : (c : ℕ) < 128 then x2 (ix2 (row b v) ⟨c, h⟩)
          else if h' : (c : ℕ) - 128 < 22 then m b (ix2 v ⟨c - 128, h'⟩) else g b (ix2 v ⟨c - 128 - 22, by omega⟩)) * wo (ix2 c o) + bo (ix2 0 o)) 0 := by
  unfold row
  pointwise [outLayer]
  refine congrArg (max · 0) (congrArg (· + bo (ix2 0 o)) (Finset.sum_congr rfl fun c _ => congrArg (· * wo (ix2 c o)) ?_))
  by_cases h : (c : ℕ) < 128
  · rw [dif_pos h, dif_pos h]
  rw [dif_neg h, dif_neg h]
  by_cases h' : (c : ℕ) - 128 < 22
  · rw [dif_pos h', dif_pos h']
    exact pick_quarter (fun b v => m b (ix2 v ⟨c - 128, h'⟩)) b v
  · rw [dif_neg h', dif_neg h']
    exact pick_quarter (fun b v => g b (ix2 v ⟨c - 128 - 22, by omega⟩)) b v

end Cert.GravNet
end
-- ==== Proof.GravNet.Order.lean ====
module

public import proofs.«01_k».proof.Proof.GravNet.Select
public import Idealize.ShloMosaic.Lib.SortFacts
public import Idealize.ShloMosaic.PureOps.Ideal

@[expose] public section

noncomputable section

namespace Cert.GravNet

open Idealize.ShloMosaic

/-- Position `k` comes before position `k'`: it is nearer, or as near and earlier. -/
def Before {n : ℕ} (d : Fin n → EReal) (k k' : Fin n) : Prop := d k < d k' ∨ (d k = d k' ∧ k < k')

/-- One insertion of the stable sort keeps the list in order, of equal elements the earlier first. -/
theorem insert_ordered {n : ℕ} (d : Fin n → EReal) (a : Fin n) (l : List (Fin n)) (hl : l.Pairwise (Before d))
    (ha : ∀ b ∈ l, a < b) : (insertBefore (fun k k' => decide (d k < d k')) a l).Pairwise (Before d) := by
  induction l with
  | nil => exact List.pairwise_singleton _ _
  | cons b l ih =>
    rw [List.pairwise_cons] at hl
    unfold insertBefore
    by_cases h : d b < d a
    · rw [if_pos (decide_eq_true h), List.pairwise_cons]
      refine ⟨fun x hx => ?_, ih hl.2 fun y hy => ha y (List.mem_cons_of_mem _ hy)⟩
      rcases List.mem_cons.mp ((perm_insertBefore _ a l).mem_iff.mp hx) with rfl | hx
      · exact Or.inl h
      · exact hl.1 x hx
    · rw [if_neg (by simpa using h), List.pairwise_cons, List.pairwise_cons]
      have hab : d a ≤ d b := not_lt.mp h
      refine ⟨fun x hx => ?_, hl⟩
      have hx' := ha x hx
      have hle : d a ≤ d x := by
        rcases List.mem_cons.mp hx with rfl | hx
        · exact hab
        · rcases hl.1 x hx with h | h
          · exact hab.trans h.le
          · exact hab.trans h.1.le
      rcases hle.lt_or_eq with h | h
      · exact Or.inl h
      · exact Or.inr ⟨h, hx'⟩

/-- The stable sort of an increasing list is in order. -/
theorem sort_ordered {n : ℕ} (d : Fin n → EReal) (l : List (Fin n)) (hl : l.Pairwise (· < ·)) :
    (stableSort (fun k k' => decide (d k < d k')) l).Pairwise (Before d) := by
  induction l with
  | nil => exact List.Pairwise.nil
  | cons a l ih =>
    rw [List.pairwise_cons] at hl
    exact insert_ordered d a _ (ih hl.2) fun b hb => hl.1 b ((perm_stableSort _ l).mem_iff.mp hb)

/-- The position that the stable sort by `d` puts at place `k`. -/
def order {n : ℕ} (d : Fin n → EReal) : Fin n → Fin n := sortedFrom fun k k' => decide (d k < d k')

/-- Every position is put at one place. -/
theorem order_bijective {n : ℕ} (d : Fin n → EReal) : Function.Bijective (order d) :=
  ⟨sortedFrom_injective _, sortedFrom_surjective _⟩

/-- The places are in order. -/
theorem order_sorted {n : ℕ} (d : Fin n → EReal) (k k' : Fin n) (h : k < k') :
    d (order d k) < d (order d k') ∨ (d (order d k) = d (order d k') ∧ order d k < order d k') :=
  List.pairwise_iff_get.mp (sort_ordered d _ (List.pairwise_lt_finRange n)) _ _ h

end Cert.GravNet
end
-- ==== Proof.GravNet.Meet.lean ====
module

public import proofs.«01_k».proof.Proof.GravNet.Order
public import proofs.«01_k».proof.Proof.GravNet.Model

@[expose] public section

noncomputable section

namespace Cert.GravNet

open Idealize.ShloMosaic

/-! ## Constants -/

/-- The constant 1. -/
theorem bits_one : Ideal.ofBits .f32 0x3F800000#32 = ((1 : ℝ) : EReal) := by
  simp [Ideal.ofBits, Ideal.ieee, -EReal.coe_mul]; norm_num

/-- The constant 2. -/
theorem bits_two : Ideal.ofBits .f32 0x40000000#32 = ((2 : ℝ) : EReal) := by
  simp [Ideal.ofBits, Ideal.ieee, -EReal.coe_mul]; norm_num

/-- The constant 40, as a real number. -/
theorem bits_forty_real : Ideal.ofBits .f32 0x42200000#32 = ((40 : ℝ) : EReal) := by
  simp [Ideal.ofBits, Ideal.ieee, -EReal.coe_mul]; norm_num

/-- The constant 512. -/
theorem bits_512 : Ideal.ofBits .f32 0x44000000#32 = ((512 : ℝ) : EReal) := by
  simp [Ideal.ofBits, Ideal.ieee, -EReal.coe_mul]; norm_num

/-- The constant minus 10. -/
theorem bits_ten : Ideal.ofBits .f32 0xC1200000#32 = ((-10 : ℝ) : EReal) := by
  simp [Ideal.ofBits, Ideal.ieee, -EReal.coe_mul]; norm_num

/-- The least extended real, of 32 bits. -/
theorem bits_bot : Ideal.ofBits .f32 0xFF800000#32 = ⊥ := by
  simp [Ideal.ofBits, Ideal.ieee]

/-- The least extended real, of 16 bits. -/
theorem bits_bot_half : Ideal.ofBits .bf16 0xFF80#16 = ⊥ := by
  simp [Ideal.ofBits, Ideal.ieee]

/-! ## Real numbers among the extended reals -/

/-- The sum of real numbers, among the extended reals. -/
theorem coe_total {n : ℕ} (r : Fin n → ℝ) : ((∑ i, r i : ℝ) : EReal) = ∑ i, (r i : EReal) :=
  map_sum (⟨⟨fun x : ℝ => (x : EReal), rfl⟩, EReal.coe_add⟩ : ℝ →+ EReal) r Finset.univ

/-- An extended real that is a real number. -/
def IsReal (x : EReal) : Prop := ∃ r : ℝ, x = r

/-- A sum of real numbers is one. -/
theorem IsReal.sum {n : ℕ} {f : Fin n → EReal} (h : ∀ i, IsReal (f i)) : IsReal (∑ i, f i) := by
  choose r hr using h
  exact ⟨∑ i, r i, by simp only [hr]; exact (coe_total _).symm⟩

/-- A product of real numbers is one. -/
theorem IsReal.mul {x y : EReal} (hx : IsReal x) (hy : IsReal y) : IsReal (x * y) := by
  obtain ⟨a, rfl⟩ := hx
  obtain ⟨b, rfl⟩ := hy
  exact ⟨a * b, (EReal.coe_mul _ _).symm⟩

/-- A sum of two real numbers is one. -/
theorem IsReal.add {x y : EReal} (hx : IsReal x) (hy : IsReal y) : IsReal (x + y) := by
  obtain ⟨a, rfl⟩ := hx
  obtain ⟨b, rfl⟩ := hy
  exact ⟨a + b, (EReal.coe_add _ _).symm⟩

/-- The greater of two real numbers is one. -/
theorem IsReal.max {x y : EReal} (hx : IsReal x) (hy : IsReal y) : IsReal (max x y) := by
  rcases max_choice x y with h | h
  · rw [h]; exact hx
  · rw [h]; exact hy

/-- The features of real inputs are real. -/
theorem feat_real {x : Fin 4 → Fin 512 → Fin 64 → EReal} (hx : ∀ b v c, IsReal (x b v c)) (b : Fin 4) (v : Fin 512)
    (c : Fin 128) : IsReal (feat x b v c) := by
  unfold feat
  split
  · exact hx _ _ _
  · rw [bits_512, Ideal.div_coe (by norm_num)]
    exact (IsReal.sum fun r => hx _ _ _).mul ⟨_, rfl⟩

/-- The learned transformation of real inputs, by real weights, is real. -/
theorem slr_real {x : Fin 4 → Fin 512 → Fin 64 → EReal} {w : Fin 26 → Fin 128 → EReal} {β : Fin 26 → EReal}
    (hx : ∀ b v c, IsReal (x b v c)) (hw : ∀ o c, IsReal (w o c)) (hβ : ∀ o, IsReal (β o)) (b : Fin 4) (v : Fin 512)
    (o : Fin 26) : IsReal (slr x w β b v o) :=
  ((IsReal.sum fun c => (feat_real hx b v c).mul (hw o c)).add (hβ o)).max ⟨0, rfl⟩

/-! ## Squared distances -/

/-- The squared distance of two real points. -/
def dist2 (p q : Fin 4 → ℝ) : ℝ := ∑ a, (p a - q a) * (p a - q a)

/-- A squared distance is not negative. -/
theorem dist2_nonneg (p q : Fin 4 → ℝ) : 0 ≤ dist2 p q := Finset.sum_nonneg fun _ _ => mul_self_nonneg _

/-- The Gram form of the squared distance. -/
theorem gram_eq (p q : Fin 4 → ℝ) :
    max ((∑ a, (p a : EReal) * p a + ∑ a, Ideal.ofBits .f32 0x3F800000#32 * ((q a : EReal) * q a))
      - Ideal.ofBits .f32 0x40000000#32 * ∑ a, (p a : EReal) * q a) 0 = (dist2 q p : EReal) := by
  have h : (∑ a, (p a : EReal) * p a + ∑ a, Ideal.ofBits .f32 0x3F800000#32 * ((q a : EReal) * q a))
      - Ideal.ofBits .f32 0x40000000#32 * ∑ a, (p a : EReal) * q a = (dist2 q p : EReal) := by
    rw [bits_one, bits_two]
    simp only [← EReal.coe_mul, ← coe_total, ← EReal.coe_add, ← EReal.coe_sub]
    refine congrArg _ ?_
    unfold dist2
    simp only [Fin.sum_univ_four]
    ring
  rw [h]
  exact max_eq_left (by exact_mod_cast dist2_nonneg q p)

/-- The sum of the squared differences of real points. -/
theorem diff_eq (p q : Fin 4 → ℝ) :
    ∑ a, ((p a : EReal) - q a) * ((p a : EReal) - q a) = (dist2 p q : EReal) := by
  simp only [← EReal.coe_mul, ← coe_total, ← EReal.coe_sub]
  rfl

/-- The guarded square root of a real number that is not negative. -/
theorem root_eq {D : ℝ} (h : 0 ≤ D) : (if 0 < (D : EReal) then Ideal.sqrt D else 0) = ((√D : ℝ) : EReal) := by
  by_cases h0 : 0 < (D : EReal)
  · rw [if_pos h0, Ideal.sqrt_coe, if_neg (not_lt.mpr h)]
  · rw [if_neg h0]
    have : D = 0 := le_antisymm (by exact_mod_cast not_lt.mp h0) h
    rw [this, Real.sqrt_zero]
    rfl

/-- Places depend on the order of the entries only. -/
theorem place_congr {n : ℕ} {d e : Fin n → EReal} (h : ∀ r i, d r < d i ↔ e r < e i) (i : Fin n) : place d i = place e i := by
  have h' : ∀ r i, d r = d i ↔ e r = e i := by
    intro r i
    constructor
    · intro hd
      exact le_antisymm (not_lt.mp fun hc => absurd ((h i r).mpr hc) (by rw [hd]; exact lt_irrefl _))
        (not_lt.mp fun hc => absurd ((h r i).mpr hc) (by rw [hd]; exact lt_irrefl _))
    · intro he
      exact le_antisymm (not_lt.mp fun hc => absurd ((h i r).mp hc) (by rw [he]; exact lt_irrefl _))
        (not_lt.mp fun hc => absurd ((h r i).mp hc) (by rw [he]; exact lt_irrefl _))
  unfold place
  simp only [h, h']

/-- The distances are in the order of the squared distances. -/
theorem place_root {n : ℕ} (D : Fin n → ℝ) (hD : ∀ i, 0 ≤ D i) (i : Fin n) :
    place (fun i => ((√(D i) : ℝ) : EReal)) i = place (fun i => (D i : EReal)) i :=
  place_congr (fun r i => by
    rw [EReal.coe_lt_coe_iff, EReal.coe_lt_coe_iff]
    exact Real.sqrt_lt_sqrt_iff (hD r)) i

/-! ## Means and maxima over the nearest -/

section
variable (D : Fin 512 → ℝ) (hD : ∀ i, 0 ≤ D i) (l : Fin 512 → ℝ) (hl : ∀ i, 0 ≤ l i)

/-- The weight of an entry among the 40 nearest, and zero for the others. -/
def weight (i : Fin 512) : EReal :=
  if place (fun r => (D r : EReal)) i < 40 then Ideal.exp (Ideal.ofBits .f32 0xC1200000#32 * (D i : EReal)) else 0

/-- The product of a feature with the weight of its distance. -/
def prod (i : Fin 512) : EReal :=
  (l i : EReal) * Ideal.exp (Ideal.ofBits .f32 0xC1200000#32 * (((√(D i) : ℝ) : EReal) * ((√(D i) : ℝ) : EReal)))

/-- A weight as a real number. -/
theorem weight_eq (i : Fin 512) :
    weight D i = ((if place (fun r => (D r : EReal)) i < 40 then Real.exp (-10 * D i) else 0 : ℝ) : EReal) := by
  unfold weight
  split
  · rw [bits_ten, ← EReal.coe_mul, Ideal.exp_coe]
  · rfl

include hD in
/-- A product as a real number. -/
theorem prod_eq (i : Fin 512) : prod D l i = ((l i * Real.exp (-10 * D i) : ℝ) : EReal) := by
  unfold prod
  rw [bits_ten, ← EReal.coe_mul, Real.mul_self_sqrt (hD i), ← EReal.coe_mul, Ideal.exp_coe, ← EReal.coe_mul]

include hD in
/-- The weighted mean over all entries, from the two halves, is the mean of the products over the 40 nearest. -/
theorem mean_eq :
    (∑ i, weight D i * (l i : EReal) + ∑ i, weight D i * ((l i : EReal) - l i) + ∑ i, (weight D i - weight D i) * (l i : EReal))
        * ((40⁻¹ : ℝ) : EReal)
      = Ideal.div (∑ k : Fin 40, prod D l (order (fun i => ((√(D i) : ℝ) : EReal)) (Fin.castLE (by decide) k)))
          (Ideal.ofBits .f32 0x42200000#32) := by
  rw [sum_listed (order_bijective _) (order_sorted _) 40 (by decide) (prod D l), bits_forty_real, Ideal.div_coe (by norm_num)]
  simp only [place_root D hD, weight_eq, prod_eq D hD]
  have h0 : ∀ i, (if place (fun r => (D r : EReal)) i < 40 then ((l i * Real.exp (-10 * D i) : ℝ) : EReal) else 0)
      = ((if place (fun r => (D r : EReal)) i < 40 then Real.exp (-10 * D i) else 0 : ℝ) : EReal) * (l i : EReal) := by
    intro i
    split
    · rw [← EReal.coe_mul, mul_comm]
    · exact (zero_mul _).symm
  simp only [h0]
  simp only [← EReal.coe_mul, ← coe_total, ← EReal.coe_add, ← EReal.coe_sub, sub_self, mul_zero, zero_mul,
    Finset.sum_const_zero, add_zero, one_div]

include hD hl in
/-- The weighted maximum over all entries is the maximum of the products over the 40 nearest. -/
theorem max_eq :
    Finset.fold max (Ideal.ofBits .bf16 0xFF80#16) (fun i => weight D i * (l i : EReal)) Finset.univ
      = Finset.fold max (Ideal.ofBits .f32 0xFF800000#32)
          (fun k : Fin 40 => prod D l (order (fun i => ((√(D i) : ℝ) : EReal)) (Fin.castLE (by decide) k))) Finset.univ := by
  rw [bits_bot, bits_bot_half]
  have hpos : ∀ i, 0 ≤ prod D l i := by
    intro i
    rw [prod_eq D hD]
    exact_mod_cast mul_nonneg (hl i) (Real.exp_pos _).le
  have hin : ∀ i, place (fun r => (D r : EReal)) i < 40 → weight D i * (l i : EReal) = prod D l i := by
    intro i hi
    rw [weight_eq, if_pos hi, prod_eq D hD, ← EReal.coe_mul, mul_comm]
  have hout : ∀ i, ¬ place (fun r => (D r : EReal)) i < 40 → weight D i * (l i : EReal) = 0 := by
    intro i hi
    rw [weight_eq, if_neg hi]
    exact zero_mul _
  have hex := place_lt_iff (order_bijective fun i => ((√(D i) : ℝ) : EReal)) (order_sorted _) 40 (by decide)
  refine le_antisymm ?_ ?_
  · refine (Finset.fold_max_le _).mpr ⟨bot_le, fun i _ => ?_⟩
    by_cases hi : place (fun r => (D r : EReal)) i < 40
    · rw [hin i hi]
      obtain ⟨k, hk⟩ := (hex i).mp (by rw [place_root D hD]; exact hi)
      exact (Finset.le_fold_max _).mpr (Or.inr ⟨k, Finset.mem_univ _, by rw [hk]⟩)
    · rw [hout i hi]
      exact (Finset.le_fold_max _).mpr (Or.inr ⟨0, Finset.mem_univ _, hpos _⟩)
  · refine (Finset.fold_max_le _).mpr ⟨bot_le, fun k _ => ?_⟩
    refine (Finset.le_fold_max _).mpr (Or.inr ⟨order (fun i => ((√(D i) : ℝ) : EReal)) (Fin.castLE (by decide) k), Finset.mem_univ _, ?_⟩)
    rw [hin _ (by rw [← place_root D hD]; exact (hex _).mpr ⟨k, rfl⟩)]

end

end Cert.GravNet
end
-- ==== Proof.GravNet.Layer.lean ====
module

public import proofs.«01_k».proof.Proof.GravNet.KernelValue
public import proofs.«01_k».proof.Proof.GravNet.Meet

@[expose] public section

noncomputable section

namespace Cert.GravNet

open Idealize.ShloMosaic Idealize.ShloMosaic.TcCoe Idealize.SL.Sem Cert.KernelIdeal Cert.KernelIdeal.Gen

/-- Every quarter of the columns of the weights is a slice of them. -/
theorem weights_fit : ∀ b : Fin 4, S512x2048.Slices ![0, (b : ℕ) * 512] S512x512 := by decide

/-- Every quarter of the rows of the learned features is a slice of them. -/
theorem lrn_fit : ∀ b : Fin 4, S2048x22.Slices ![(b : ℕ) * 512, 0] S512x22 := by decide

/-- The means of batch entry `b`. -/
def meanOf (w : FVec Ideal S512x2048 .f32) (lr : FVec Ideal S2048x22 .f32) (b : Fin 4) : FVec Ideal S512x22 .f32 :=
  meanBlock (extractStridedSlice S512x512 ![0, (b : ℕ) * 512] (hiW w) (weights_fit b)) (extractStridedSlice S512x512 ![0, (b : ℕ) * 512] (loW w) (weights_fit b))
    (extractStridedSlice S512x22 ![(b : ℕ) * 512, 0] (hiL lr) (lrn_fit b)) (extractStridedSlice S512x22 ![(b : ℕ) * 512, 0] (loL lr) (lrn_fit b))

/-- The maxima of batch entry `b`. -/
def maxOf (w : FVec Ideal S512x2048 .f32) (lr : FVec Ideal S2048x22 .f32) (b : Fin 4) : FVec Ideal S512x22 .f32 :=
  maxBlock (extractStridedSlice S512x512 ![0, (b : ℕ) * 512] (hiW w) (weights_fit b)) (extractStridedSlice S512x22 ![(b : ℕ) * 512, 0] (hiL lr) (lrn_fit b))

/-- The layer is its output layer, on the means and maxima of the batch entries. -/
theorem aggregate_eq (x2 : FVec Ideal S2048x128 .f32) (w : FVec Ideal S512x2048 .f32) (lr : FVec Ideal S2048x22 .f32)
    (wo : Vec Ideal S172x48 .f32) (bo : Vec Ideal S1x48 .f32) :
    aggregate x2 w lr wo bo = outLayer x2 (meanOf w lr 0) (meanOf w lr 1) (meanOf w lr 2) (meanOf w lr 3)
      (maxOf w lr 0) (maxOf w lr 1) (maxOf w lr 2) (maxOf w lr 3) wo bo := by
  rfl

/-- The means of batch entry `b` at an index. -/
theorem meanOf_apply (w : FVec Ideal S512x2048 .f32) (lr : FVec Ideal S2048x22 .f32) (b : Fin 4) (j : Fin 512) (f : Fin 22) :
    meanOf w lr b (ix2 j f)
      = (∑ i, w (ix2 i (row b j)) * lr (ix2 (row b i) f) + ∑ i, w (ix2 i (row b j)) * (lr (ix2 (row b i) f) - lr (ix2 (row b i) f))
          + ∑ i, (w (ix2 i (row b j)) - w (ix2 i (row b j))) * lr (ix2 (row b i) f)) * ((40⁻¹ : ℝ) : EReal) := by
  have hk : Named.named (F := Ideal) (φ := .f32) κ "inv_k" 0x3CCCCCCD#32 = ((40⁻¹ : ℝ) : EReal) := by
    simp [Named.named, κ]
  unfold meanOf
  rw [meanBlock_apply, hk]
  unfold row
  pointwise [hiW, loW, hiL, loL]

/-- The maxima of batch entry `b` at an index. -/
theorem maxOf_apply (w : FVec Ideal S512x2048 .f32) (lr : FVec Ideal S2048x22 .f32) (b : Fin 4) (j : Fin 512) (f : Fin 22) :
    maxOf w lr b (ix2 j f)
      = Finset.fold max (Ideal.ofBits .bf16 0xFF80#16) (fun i => w (ix2 i (row b j)) * lr (ix2 (row b i) f)) Finset.univ := by
  unfold maxOf
  rw [maxBlock_apply]
  unfold row
  pointwise [hiW, hiL]

section
variable (x : Vec Ideal S4x512x64 .f32) (w : Vec Ideal S26x128 .f32) (β : Vec Ideal S26 .f32)

/-- The positions of the kernel are those of the model. -/
theorem kernel_pos (b : Fin 4) (v : Fin 512) (a : Fin 4) :
    k0_pay3 (feats x) (transpose S128x26 [1, 0] w transposes_S26x128_S128x26_1_0) (shapeCast S1x26 β shapeCasts_S26_S1x26) (ix2 (row b v) a)
      = pos (fun b v c => x (ix3 b v c)) (fun o c => w (ix2 o c)) (fun o => β (ix1 o)) b v a := by
  rw [pay3_apply]
  simp only [feats_apply]
  unfold pos slr
  pointwise

/-- The learned features of the kernel are those of the model. -/
theorem kernel_lrn (b : Fin 4) (v : Fin 512) (f : Fin 22) :
    k0_pay4 (feats x) (transpose S128x26 [1, 0] w transposes_S26x128_S128x26_1_0) (shapeCast S1x26 β shapeCasts_S26_S1x26) (ix2 (row b v) f)
      = lrn (fun b v c => x (ix3 b v c)) (fun o c => w (ix2 o c)) (fun o => β (ix1 o)) b v f := by
  rw [pay4_apply]
  simp only [feats_apply]
  unfold lrn slr
  pointwise

end

/-- The weights of the kernel, of real positions. -/
theorem weights_real (s : FVec Ideal S2048x4 .f32) (P : Fin 4 → Fin 512 → Fin 4 → ℝ) (h : ∀ b v a, s (ix2 (row b v) a) = (P b v a : EReal))
    (b : Fin 4) (i j : Fin 512) : weights s (ix2 i (row b j)) = weight (fun r => dist2 (P b j) (P b r)) i := by
  have hd : ∀ i, sqAll s (ix2 i (row b j)) = (dist2 (P b j) (P b i) : EReal) := by
    intro i
    rw [sqAll_apply]
    simp only [h]
    exact gram_eq _ _
  rw [weights_apply]
  simp only [hd]
  rfl

end Cert.GravNet
end
-- ==== Proof.GravNet.ReferenceValue.lean ====
module

public import proofs.«01_k».proof.Proof.Gen.ReferenceIdeal.Read
public import proofs.«01_k».proof.Proof.GravNet.Model
public import Idealize.ShloMosaic.Lib.Pointwise
public import proofs.«01_k».proof.Proof.GravNet.Order

@[expose] public section

noncomputable section

namespace Cert.GravNet

open Idealize.ShloMosaic Idealize.ShloMosaic.TcCoe Idealize.SL.Sem Cert.ReferenceIdeal Cert.ReferenceIdeal.Gen Cert.ReferenceIdeal.Read

variable (x0 : (⟨S4x512x64, .f32⟩ : BufTy).Contents (Elt Ideal)) (x1 : (⟨S26x128, .f32⟩ : BufTy).Contents (Elt Ideal))
  (x2 : (⟨S26, .f32⟩ : BufTy).Contents (Elt Ideal)) (x3 : (⟨S48x172, .f32⟩ : BufTy).Contents (Elt Ideal))
  (x4 : (⟨S48, .f32⟩ : BufTy).Contents (Elt Ideal))

/-- The features of the reference at an index. -/
theorem ref_feat (b : Fin 4) (v : Fin 512) (c : Fin 128) :
    val_main_v7 (F := Ideal) x0 (ix3 b v c) = feat (fun b v c => x0 (ix3 b v c)) b v c := by
  unfold feat
  pointwise [val_main_v7, val_main_v6, val_main_v5, val_main_v4, val_main_v3, val_main_v2, val_main_v1, val_main_v0, val_main_cst, val_main_cst_0]

/-- The learned transformation of the reference at an index. -/
theorem ref_slr (b : Fin 4) (v : Fin 512) (o : Fin 26) :
    val_main_v12 (F := Ideal) x0 x1 x2 (ix3 b v o)
      = slr (fun b v c => x0 (ix3 b v c)) (fun o c => x1 (ix2 o c)) (fun o => x2 (ix1 o)) b v o := by
  unfold slr
  simp only [← ref_feat]
  pointwise [val_main_v12, val_main_call0_v0, val_main_call0_cst, val_main_v11, val_main_v10, val_main_v9, val_main_v8]

/-- The positions of the reference at an index. -/
theorem ref_pos (b : Fin 4) (v : Fin 512) (a : Fin 4) :
    val_main_v13 (F := Ideal) x0 x1 x2 (ix3 b v a)
      = pos (fun b v c => x0 (ix3 b v c)) (fun o c => x1 (ix2 o c)) (fun o => x2 (ix1 o)) b v a := by
  unfold pos
  rw [← ref_slr]
  pointwise [val_main_v13]

/-- The learned features of the reference at an index. -/
theorem ref_lrn (b : Fin 4) (v : Fin 512) (f : Fin 22) :
    val_main_v14 (F := Ideal) x0 x1 x2 (ix3 b v f)
      = lrn (fun b v c => x0 (ix3 b v c)) (fun o c => x1 (ix2 o c)) (fun o => x2 (ix1 o)) b v f := by
  unfold lrn
  rw [← ref_slr]
  pointwise [val_main_v14]

/-- The squared distances of the reference at an index. -/
theorem ref_sq (b : Fin 4) (j k : Fin 512) :
    val_main_v21 (F := Ideal) x0 x1 x2 (ix3 b j k) = ∑ a, (val_main_v13 (F := Ideal) x0 x1 x2 (ix3 b j a) - val_main_v13 (F := Ideal) x0 x1 x2 (ix3 b k a)) * (val_main_v13 (F := Ideal) x0 x1 x2 (ix3 b j a) - val_main_v13 (F := Ideal) x0 x1 x2 (ix3 b k a)) := by
  pointwise [val_main_v21, val_main_v20, val_main_v19, val_main_v18, val_main_v17, val_main_v16, val_main_v15, val_main_cst_1]

/-- The distances of the reference at an index: the square root, guarded where the square is zero. -/
theorem ref_dist (b : Fin 4) (j k : Fin 512) :
    val_main_v28 (F := Ideal) x0 x1 x2 (ix3 b j k)
      = if 0 < val_main_v21 (F := Ideal) x0 x1 x2 (ix3 b j k) then Ideal.sqrt (val_main_v21 (F := Ideal) x0 x1 x2 (ix3 b j k)) else 0 := by
  pointwise [val_main_v28, val_main_v27, val_main_v26, val_main_v25, val_main_v24, val_main_v23, val_main_v22, val_main_cst_2, val_main_cst_3, val_main_cst_4, val_main_cst_5, val_main_call1_v0, val_main_call1_v1, val_main_call2_v0, val_main_call2_v1]
  by_cases h : 0 < val_main_v21 (F := Ideal) x0 x1 x2 (ix3 b j k)
  · simp only [if_pos h]
  · simp only [if_neg h]
    pointwise [id]

/-- The comparator of the reference's sort compares the distances. -/
theorem comparator_eq (p q : Ideal .f32 × BitVec 32) : (comparator_f32_i32_d2 (F := Ideal) p q == 1#1) = decide (p.1 < q.1) := by
  have hs : ∀ x : Ideal .f32, Scalar.select (FloatOps.cmpf (F := Ideal) .une x x) (FloatOps.ofBits (F := Ideal) .f32 0x7FC00000#32)
      (Scalar.select (FloatOps.cmpf (F := Ideal) .oeq x (FloatOps.ofBits (F := Ideal) .f32 0x00000000#32)) (FloatOps.ofBits (F := Ideal) .f32 0x00000000#32) x) = x := by
    intro x
    pointwise
    simp
    exact fun h => h.symm
  have hc : comparator_f32_i32_d2 (F := Ideal) p q = BitVec.ofBool (decide (p.1 < q.1)) := by
    unfold comparator_f32_i32_d2
    simp only [hs]
    rfl
  rw [hc]
  cases decide (p.1 < q.1) <;> rfl

/-- The second result of the reference's sort at an index. -/
theorem sort_places (x : FVec Ideal S4x512x512 .f32) (y : IVec S4x512x512 32) (b : Fin 4) (j k : Fin 512) :
    (Host.sort2 S4x512x512 2 (comparator_f32_i32_d2 (F := Ideal)) x y).2 (ix3 b j k) = y (ix3 b j (order (fun i => x (ix3 b j i)) k)) := by
  have h2 : 2 < S4x512x512.rank := by decide
  have ha : ∀ m : Fin (S4x512x512.size ⟨2, h2⟩), Shape.Idx.along (s := S4x512x512) (ix3 b j k) ⟨2, h2⟩ m = ix3 b j m := by
    intro m
    funext a
    match a with
    | ⟨0, _⟩ => rfl
    | ⟨1, _⟩ => rfl
    | ⟨2, _⟩ => rfl
  unfold Host.sort2
  rw [dif_pos h2]
  simp only [comparator_eq, ha]
  rfl

/-- The sorted positions of the reference. -/
theorem ref_order (b : Fin 4) (j k : Fin 512) :
    val_main_v29 (F := Ideal) x0 x1 x2 (ix3 b j k)
      = BitVec.ofNat 32 (order (fun i => val_main_v28 (F := Ideal) x0 x1 x2 (ix3 b j i)) k) := by
  unfold val_main_v29
  rw [sort_places]
  pointwise [val_main_call3_v0]

/-- The first gather of the reference at an index. -/
theorem gather_dist (x : FVec Ideal S4x512x512 .f32) (idx : IVec S4x512x40x3 32) (b : Fin 4) (j : Fin 512) (k : Fin 40)
    (p : Fin 4) (q r : Fin 512) (h0 : (idx (ix4 b j k 0)).toInt.toNat = p) (h1 : (idx (ix4 b j k 1)).toInt.toNat = q)
    (h2 : (idx (ix4 b j k 2)).toInt.toNat = r) :
    Host.gather gather_S4x512x512_S4x512x40x3_S4x512x40_n_012_n_n_012_3_111 x idx (ix3 b j k) = x (ix3 p q r) := by
  unfold Host.gather
  refine congrArg x (funext fun a => Fin.ext ?_)
  have hsi : ∀ c, (gather_S4x512x512_S4x512x40x3_S4x512x40_n_012_n_n_012_3_111).siIdx (ix3 b j k) c = ix4 b j k c := by
    intro c
    funext e
    match e with
    | ⟨0, _⟩ => rfl
    | ⟨1, _⟩ => rfl
    | ⟨2, _⟩ => rfl
    | ⟨3, _⟩ => rfl
  show (gather_S4x512x512_S4x512x40x3_S4x512x40_n_012_n_n_012_3_111).start (ix3 b j k) idx a
    + (gather_S4x512x512_S4x512x40x3_S4x512x40_n_012_n_n_012_3_111).batchCoord (ix3 b j k) a
    + (gather_S4x512x512_S4x512x40x3_S4x512x40_n_012_n_n_012_3_111).offCoord (ix3 b j k) a = _
  rw [GatherDims.batchCoord_eq_zero _ _ _ (by exact List.not_mem_nil), GatherDims.offCoord_eq_zero _ _ _ (by revert a; decide)]
  unfold GatherDims.start
  rw [dif_pos (by revert a; decide), hsi]
  match a with
  | ⟨0, _⟩ => exact (congrArg (min · 3) h0).trans (by have := p.isLt; show min (p : ℕ) 3 = p; omega)
  | ⟨1, _⟩ => exact (congrArg (min · 511) h1).trans (by have := q.isLt; show min (q : ℕ) 511 = q; omega)
  | ⟨2, _⟩ => exact (congrArg (min · 511) h2).trans (by have := r.isLt; show min (r : ℕ) 511 = r; omega)

/-- The second gather of the reference at an index. -/
theorem gather_lrn (x : FVec Ideal S4x512x512x22 .f32) (idx : IVec S4x512x40x3 32) (b : Fin 4) (j : Fin 512) (k : Fin 40) (f : Fin 22)
    (p : Fin 4) (q r : Fin 512) (h0 : (idx (ix4 b j k 0)).toInt.toNat = p) (h1 : (idx (ix4 b j k 1)).toInt.toNat = q)
    (h2 : (idx (ix4 b j k 2)).toInt.toNat = r) :
    Host.gather gather_S4x512x512x22_S4x512x40x3_S4x512x40x22_3_012_n_n_012_3_11122 x idx (ix4 b j k f) = x (ix4 p q r f) := by
  unfold Host.gather
  refine congrArg x (funext fun a => Fin.ext ?_)
  have hsi : ∀ c, (gather_S4x512x512x22_S4x512x40x3_S4x512x40x22_3_012_n_n_012_3_11122).siIdx (ix4 b j k f) c = ix4 b j k c := by
    intro c
    funext e
    match e with
    | ⟨0, _⟩ => rfl
    | ⟨1, _⟩ => rfl
    | ⟨2, _⟩ => rfl
    | ⟨3, _⟩ => rfl
  show (gather_S4x512x512x22_S4x512x40x3_S4x512x40x22_3_012_n_n_012_3_11122).start (ix4 b j k f) idx a
    + (gather_S4x512x512x22_S4x512x40x3_S4x512x40x22_3_012_n_n_012_3_11122).batchCoord (ix4 b j k f) a
    + (gather_S4x512x512x22_S4x512x40x3_S4x512x40x22_3_012_n_n_012_3_11122).offCoord (ix4 b j k f) a = _
  rw [GatherDims.batchCoord_eq_zero _ _ _ (by exact List.not_mem_nil)]
  unfold GatherDims.start
  have ha : a = 0 ∨ a = 1 ∨ a = 2 ∨ a = 3 := by revert a; decide
  rcases ha with rfl | rfl | rfl | rfl
  · rw [GatherDims.offCoord_eq_zero _ _ _ (by decide), dif_pos (by decide), hsi]
    exact (congrArg (min · 3) h0).trans (by have := p.isLt; show min (p : ℕ) 3 = p; omega)
  · rw [GatherDims.offCoord_eq_zero _ _ _ (by decide), dif_pos (by decide), hsi]
    exact (congrArg (min · 511) h1).trans (by have := q.isLt; show min (q : ℕ) 511 = q; omega)
  · rw [GatherDims.offCoord_eq_zero _ _ _ (by decide), dif_pos (by decide), hsi]
    exact (congrArg (min · 511) h2).trans (by have := r.isLt; show min (r : ℕ) 511 = r; omega)
  · rw [dif_neg (by decide)]
    unfold GatherDims.offCoord
    rw [dif_pos (by decide)]
    show 0 + 0 + (f : ℕ) = f
    omega

/-- A small number as a word, wrapped around if it were negative, is the number. -/
theorem wrap_nat (n : ℕ) (hn : n < 512) (m : BitVec 32) :
    (Scalar.select (IntOp.cmpi CmpIPredicate.slt (BitVec.ofNat 32 n) 0#32) (IntOp.addi (BitVec.ofNat 32 n) m) (BitVec.ofNat 32 n)).toInt.toNat = n := by
  have h0 : (BitVec.ofNat 32 n).toInt = n := by
    rw [BitVec.toInt_eq_toNat_of_lt] <;> simp <;> omega
  have h1 : IntOp.cmpi CmpIPredicate.slt (BitVec.ofNat 32 n) 0#32 = 0#1 := by
    simp [IntOp.cmpi, BitVec.slt, h0, show ¬ ((n : ℤ) < 0) by omega]
  rw [h1]
  show (BitVec.ofNat 32 n).toInt.toNat = n
  rw [h0]
  rfl

/-- The start indices of the first gather: the batch entry, the vertex, and the position sorted to place `k`. -/
theorem ref_start (b : Fin 4) (j : Fin 512) (k : Fin 40) :
    (val_main_v55 (F := Ideal) x0 x1 x2 (ix4 b j k 0)).toInt.toNat = b
    ∧ (val_main_v55 (F := Ideal) x0 x1 x2 (ix4 b j k 1)).toInt.toNat = j
    ∧ (val_main_v55 (F := Ideal) x0 x1 x2 (ix4 b j k 2)).toInt.toNat = order (fun i => val_main_v28 (F := Ideal) x0 x1 x2 (ix3 b j i)) (Fin.castLE (by decide) k) := by
  refine ⟨?_, ?_, ?_⟩
  all_goals
    pointwise [val_main_v55, val_main_v54, val_main_v53, val_main_v52, val_main_v51, val_main_v50, val_main_v49, val_main_v48, val_main_v47, val_main_c_10, val_main_v46, val_main_v45, val_main_c_9, val_main_v44, val_main_v43, val_main_v42, val_main_c_8, val_main_v41, val_main_v40, val_main_c_7, val_main_v39, val_main_v38, val_main_v37, val_main_c_6, val_main_v36, val_main_v35, val_main_c, val_main_v34, val_main_v33, val_main_v32, val_main_v31, val_main_v30]
  · exact wrap_nat b (by omega) _
  · exact wrap_nat j (by omega) _
  · rw [ref_order]
    exact wrap_nat _ (Fin.isLt _) _

/-- The start indices of the second gather are those of the first. -/
theorem ref_start_eq : val_main_v80 (F := Ideal) x0 x1 x2 = val_main_v55 (F := Ideal) x0 x1 x2 := rfl

/-- The products of the reference at an index: the learned feature of the vertex sorted to place `k`, weighted by its distance. -/
theorem ref_prod (b : Fin 4) (j : Fin 512) (k : Fin 40) (f : Fin 22) :
    val_main_v88 (F := Ideal) x0 x1 x2 (ix4 b j k f)
      = (fun i => val_main_v14 (F := Ideal) x0 x1 x2 (ix3 b i f)
          * Ideal.exp (Ideal.ofBits .f32 0xC1200000#32 * (val_main_v28 (F := Ideal) x0 x1 x2 (ix3 b j i) * val_main_v28 (F := Ideal) x0 x1 x2 (ix3 b j i))))
        (order (fun i => val_main_v28 (F := Ideal) x0 x1 x2 (ix3 b j i)) (Fin.castLE (by decide) k)) := by
  have hs := ref_start x0 x1 x2 b j k
  have h1 : val_main_v56 (F := Ideal) x0 x1 x2 (ix3 b j k) = val_main_v28 (F := Ideal) x0 x1 x2 (ix3 b j (order (fun i => val_main_v28 (F := Ideal) x0 x1 x2 (ix3 b j i)) (Fin.castLE (by decide) k))) := by
    unfold val_main_v56
    exact gather_dist _ _ b j k b j _ hs.1 hs.2.1 hs.2.2
  have h2 : val_main_v81 (F := Ideal) x0 x1 x2 (ix4 b j k f) = val_main_v14 (F := Ideal) x0 x1 x2 (ix3 b (order (fun i => val_main_v28 (F := Ideal) x0 x1 x2 (ix3 b j i)) (Fin.castLE (by decide) k)) f) := by
    unfold val_main_v81
    rw [ref_start_eq, gather_lrn _ _ b j k f b j _ hs.1 hs.2.1 hs.2.2]
    pointwise [val_main_v59, val_main_v58, val_main_v57]
  pointwise [val_main_v88, val_main_v87, val_main_v86, val_main_v85, val_main_v84, val_main_v83, val_main_cst_17, val_main_v82]
  rw [h1, h2]

/-- The means of the reference at an index. -/
theorem ref_mean (b : Fin 4) (j : Fin 512) (f : Fin 22) :
    val_main_v91 (F := Ideal) x0 x1 x2 (ix3 b j f)
      = Ideal.div (∑ k, val_main_v88 (F := Ideal) x0 x1 x2 (ix4 b j k f)) (Ideal.ofBits .f32 0x42200000#32) := by
  pointwise [val_main_v91, val_main_v90, val_main_cst_19, val_main_v89, val_main_cst_18]

/-- The maxima of the reference at an index. -/
theorem ref_max (b : Fin 4) (j : Fin 512) (f : Fin 22) :
    val_main_v92 (F := Ideal) x0 x1 x2 (ix3 b j f)
      = Finset.fold max (Ideal.ofBits .f32 0xFF800000#32) (fun k => val_main_v88 (F := Ideal) x0 x1 x2 (ix4 b j k f)) Finset.univ := by
  pointwise [val_main_v92, val_main_cst_20]

/-- The result of the reference at an index. -/
theorem ref_out (b : Fin 4) (j : Fin 512) (o : Fin 48) :
    val_main_v98 (F := Ideal) x0 x1 x2 x3 x4 (ix3 b j o)
      = outp (fun b v c => x0 (ix3 b v c)) (fun b v f => val_main_v91 (F := Ideal) x0 x1 x2 (ix3 b v f)) (fun b v f => val_main_v92 (F := Ideal) x0 x1 x2 (ix3 b v f))
        (fun o c => x3 (ix2 o c)) (fun o => x4 (ix1 o)) b j o := by
  unfold outp
  simp only [← ref_feat]
  pointwise [val_main_v98, val_main_call4_v0, val_main_call4_cst, val_main_v97, val_main_v96, val_main_v95, val_main_v94, val_main_v93]

end Cert.GravNet
end
-- ==== Proof.GravNet.Final.lean ====
module

public import proofs.«01_k».proof.Proof.GravNet.Layer
public import proofs.«01_k».proof.Proof.GravNet.ReferenceValue

@[expose] public section

noncomputable section

namespace Cert.GravNet

open Idealize.ShloMosaic Idealize.ShloMosaic.TcCoe Idealize.SL.Sem Cert.KernelIdeal Cert.KernelIdeal.Gen

section
variable (x : Vec Ideal S4x512x64 .f32) (w : Vec Ideal S26x128 .f32) (β : Vec Ideal S26 .f32)
  (wo : Vec Ideal S48x172 .f32) (bo : Vec Ideal S48 .f32)

/-- The kernel's weights, of its arguments. -/
def kernelWeights : FVec Ideal S512x2048 .f32 :=
  weights (k0_pay3 (feats x) (transpose S128x26 [1, 0] w transposes_S26x128_S128x26_1_0) (shapeCast S1x26 β shapeCasts_S26_S1x26))

/-- The kernel's learned features, of its arguments. -/
def kernelLrn : FVec Ideal S2048x22 .f32 :=
  k0_pay4 (feats x) (transpose S128x26 [1, 0] w transposes_S26x128_S128x26_1_0) (shapeCast S1x26 β shapeCasts_S26_S1x26)

/-- The kernel's result is the model's, on the kernel's means and maxima. -/
theorem kernel_out (b : Fin 4) (v : Fin 512) (o : Fin 48) :
    kernelFn x w β wo bo (ix3 b v o)
      = outp (fun b v c => x (ix3 b v c)) (fun b v f => meanOf (kernelWeights x w β) (kernelLrn x w β) b (ix2 v f))
          (fun b v f => maxOf (kernelWeights x w β) (kernelLrn x w β) b (ix2 v f)) (fun o c => wo (ix2 o c)) (fun o => bo (ix1 o)) b v o := by
  have h : kernelFn x w β wo bo = aggregate (feats x) (kernelWeights x w β) (kernelLrn x w β)
      (transpose S172x48 [1, 0] wo transposes_S48x172_S172x48_1_0) (shapeCast S1x48 bo shapeCasts_S48_S1x48) := rfl
  rw [h, aggregate_eq, outLayer_apply (feats x) (meanOf (kernelWeights x w β) (kernelLrn x w β)) (maxOf (kernelWeights x w β) (kernelLrn x w β))]
  simp only [feats_apply]
  unfold outp
  pointwise

variable (hx : ∀ b v c, IsReal (x (ix3 b v c))) (hw : ∀ o c, IsReal (w (ix2 o c))) (hβ : ∀ o, IsReal (β (ix1 o)))
include hx hw hβ

/-- For real inputs, the means and the maxima of the kernel are those of the reference. -/
theorem parts_eq (b : Fin 4) (j : Fin 512) (f : Fin 22) :
    meanOf (kernelWeights x w β) (kernelLrn x w β) b (ix2 j f) = Cert.ReferenceIdeal.Read.val_main_v91 (F := Ideal) x w β (ix3 b j f)
      ∧ maxOf (kernelWeights x w β) (kernelLrn x w β) b (ix2 j f) = Cert.ReferenceIdeal.Read.val_main_v92 (F := Ideal) x w β (ix3 b j f) := by
  have hr := slr_real hx hw hβ
  choose R hR using hr
  have hp : ∀ b v a, pos (fun b v c => x (ix3 b v c)) (fun o c => w (ix2 o c)) (fun o => β (ix1 o)) b v a = (R b v ⟨a, by omega⟩ : EReal) :=
    fun b v a => hR b v _
  have hl : ∀ b v f, lrn (fun b v c => x (ix3 b v c)) (fun o c => w (ix2 o c)) (fun o => β (ix1 o)) b v f = (R b v ⟨4 + f, by omega⟩ : EReal) :=
    fun b v f => hR b v _
  have hl0 : ∀ b v o, 0 ≤ R b v o := by
    intro b v o
    have : (0 : EReal) ≤ (R b v o : EReal) := by
      rw [← hR]
      exact le_max_right _ _
    exact_mod_cast this
  have hD : ∀ i, 0 ≤ dist2 (fun a : Fin 4 => R b j ⟨a, by omega⟩) (fun a : Fin 4 => R b i ⟨a, by omega⟩) := fun i => dist2_nonneg _ _
  have hwt : ∀ i, kernelWeights x w β (ix2 i (row b j))
      = weight (fun r => dist2 (fun a : Fin 4 => R b j ⟨a, by omega⟩) (fun a : Fin 4 => R b r ⟨a, by omega⟩)) i := fun i =>
    weights_real _ (fun b v (a : Fin 4) => R b v ⟨a, by omega⟩) (fun b v a => (kernel_pos x w β b v a).trans (hp b v a)) b i j
  have hlk : ∀ i, kernelLrn x w β (ix2 (row b i) f) = (R b i ⟨4 + f, by omega⟩ : EReal) := fun i => (kernel_lrn x w β b i f).trans (hl b i f)
  have hd : ∀ i, Cert.ReferenceIdeal.Read.val_main_v28 (F := Ideal) x w β (ix3 b j i)
      = ((√(dist2 (fun a : Fin 4 => R b j ⟨a, by omega⟩) (fun a : Fin 4 => R b i ⟨a, by omega⟩)) : ℝ) : EReal) := by
    intro i
    rw [ref_dist, ref_sq]
    simp only [ref_pos, hp]
    rw [diff_eq (fun a : Fin 4 => R b j ⟨a, by omega⟩) (fun a : Fin 4 => R b i ⟨a, by omega⟩)]
    exact root_eq (hD i)
  have hpr : ∀ k : Fin 40, Cert.ReferenceIdeal.Read.val_main_v88 (F := Ideal) x w β (ix4 b j k f)
      = prod (fun r => dist2 (fun a : Fin 4 => R b j ⟨a, by omega⟩) (fun a : Fin 4 => R b r ⟨a, by omega⟩)) (fun i => R b i ⟨4 + f, by omega⟩)
          (order (fun i => ((√(dist2 (fun a : Fin 4 => R b j ⟨a, by omega⟩) (fun a : Fin 4 => R b i ⟨a, by omega⟩)) : ℝ) : EReal)) (Fin.castLE (by decide) k)) := by
    intro k
    rw [ref_prod]
    simp only [hd, ref_lrn, hl]
    rfl
  constructor
  · rw [meanOf_apply, ref_mean]
    simp only [hwt, hlk, hpr]
    exact mean_eq _ hD _
  · rw [maxOf_apply, ref_max]
    simp only [hwt, hlk, hpr]
    exact max_eq _ hD _ (fun i => hl0 _ _ _)

/-- For real inputs, the kernel and the reference compute one array. -/
theorem kernel_eq_ref : kernelFn x w β wo bo = Cert.ReferenceIdeal.Read.val_main_v98 (F := Ideal) x w β wo bo := by
  funext i
  obtain ⟨b, v, o, rfl⟩ : ∃ b v o, i = ix3 b v o := ⟨i 0, i 1, i 2, by funext a; fin_cases a <;> rfl⟩
  have hm : (fun b v f => meanOf (kernelWeights x w β) (kernelLrn x w β) b (ix2 v f))
      = fun b v f => Cert.ReferenceIdeal.Read.val_main_v91 (F := Ideal) x w β (ix3 b v f) := by
    funext b v f; exact (parts_eq x w β hx hw hβ b v f).1
  have hg : (fun b v f => maxOf (kernelWeights x w β) (kernelLrn x w β) b (ix2 v f))
      = fun b v f => Cert.ReferenceIdeal.Read.val_main_v92 (F := Ideal) x w β (ix3 b v f) := by
    funext b v f; exact (parts_eq x w β hx hw hβ b v f).2
  exact (kernel_out x w β wo bo b v o).trans
    ((congrArg₂ (fun m g => outp (fun b v c => x (ix3 b v c)) m g (fun o c => wo (ix2 o c)) (fun o => bo (ix1 o)) b v o) hm hg).trans
      (ref_out x w β wo bo b v o).symm)

end
end Cert.GravNet
end
-- ==== Proof.GravNet.Finite.lean ====
module

public import proofs.«01_k».proof.Proof.GravNet.Meet
public import proofs.«01_k».proof.Proof.Gen.Pre_finite_inputs
public import Idealize.ShloMosaic.Lib.ReduceAll
public import Idealize.ShloMosaic.Lib.Pointwise

@[expose] public section

noncomputable section

namespace Cert.GravNet

open Idealize.ShloMosaic Cert.Pre_finite_inputs Cert.Pre_finite_inputs.Gen

/-- An extended real whose absolute value compares below infinity is a real number. -/
theorem real_of_lt {s : Shape} (v : FVec Ideal s .f32) (h : S_.BroadcastsInDim s (![] : Fin 0 → Fin s.rank)) (i : s.Idx)
    (e : cmpf .olt (Host.absf v) (broadcastInDim s ![] h (constant S_ .f32 0x7F800000#32)) i = 1#1) : IsReal (v i) := by
  have ht : Ideal.ofBits .f32 0x7F800000#32 = ⊤ := by simp [Ideal.ofBits, Ideal.ieee]
  have e' : Ideal.cmp .olt (max (v i) (-(v i))) (Ideal.ofBits .f32 0x7F800000#32) = 1#1 := e
  rw [ht] at e'
  have hlt : max (v i) (-(v i)) < ⊤ := by
    by_contra hn
    simp [Ideal.cmp, hn] at e'
  rcases hv : v i with _ | _ | r
  · rw [show v i = ⊥ from hv] at hlt; simp at hlt
  · rw [show v i = ⊤ from hv] at hlt; simp at hlt
  · exact ⟨r, rfl⟩

/-- The precondition makes the inputs, the weights and the biases of the first layer real numbers. -/
theorem real_of_pre (x : Vec Ideal S4x512x64 .f32) (w : Vec Ideal S26x128 .f32) (β : Vec Ideal S26 .f32) (wo : Vec Ideal S48x172 .f32)
    (bo : Vec Ideal S48 .f32) (h : fn (F := Ideal) x w β wo bo = fun _ => 1#1) :
    (∀ i, IsReal (x i)) ∧ (∀ i, IsReal (w i)) ∧ ∀ i, IsReal (β i) := by
  have one : Subsingleton S_.Idx := ⟨fun a b => funext fun k => k.elim0⟩
  have hj := congrFun h (fun a => a.elim0)
  obtain ⟨hxw, hβ⟩ := IntOp.andi_eq_one.1 hj
  obtain ⟨hx, hw⟩ := IntOp.andi_eq_one.1 hxw
  exact ⟨fun i => real_of_lt x _ i (Host.reduce_andi_all _ _ _ _ _ hx i), fun i => real_of_lt w _ i (Host.reduce_andi_all _ _ _ _ _ hw i),
    fun i => real_of_lt β _ i (Host.reduce_andi_all _ _ _ _ _ hβ i)⟩

end Cert.GravNet
end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_inputs
public import proofs.«01_k».proof.Proof.GravNet.Output
public import proofs.«01_k».proof.Proof.GravNet.Final
public import proofs.«01_k».proof.Proof.GravNet.Finite
public import Idealize.ShloMosaic.Adequacy
public import Idealize.ShloMosaic.Init

@[expose] public section

noncomputable section

namespace Cert.Proof

open Idealize.ShloMosaic Idealize.SL.Sem

/-- The kernel runs on every input, leaves its arguments and ends quiescent. -/
theorem frame_p : Cert.quiescent_Kernel (hKernel := Cert.Kernel.Gen.facts) := fun m ρ _ => Cert.Kernel.Gen.frame m ρ

/-- The idealized kernel runs on every input, leaves its arguments and ends quiescent. -/
theorem frame_pi : Cert.quiescent_KernelIdeal (hKernelIdeal := Cert.KernelIdeal.Gen.facts) := fun m ρ _ =>
  Cert.KernelIdeal.Gen.frame m ρ

/-- The reference runs on every input and leaves its arguments; it has no semaphores. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- The one rewrite of the idealization: the literal `0.025` is read as `1/40`. -/
theorem preserves : Cert.preserves_Kernel_KernelIdeal :=
  IdealRules.named_const.statement Cert.KernelIdeal.κ "inv_k" _ _ _ (by simp [Cert.KernelIdeal.κ])

/-- From finite inputs, weights and biases of the first layer, the idealized kernel and the reference end with one result. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hpre hm
  refine ⟨fun c => Cert.GravNet.kernelFn (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)), Cert.GravNet.kernel_run m g,
    (θ_run Cert.ReferenceIdeal.defs _ _).mono (fun r h c => ⟨?_, (h c).2⟩) (Cert.ReferenceIdeal.Value.run m' g')⟩
  obtain ⟨hx, hw, hβ⟩ := Cert.GravNet.real_of_pre _ _ _ _ _ (hpre c)
  obtain ⟨h0, h1, h2, h3, h4⟩ := hm c
  have hv := (h c).1.trans (Cert.ReferenceIdeal.Read.val_main_v98_eq (Idealize.ShloMosaic.StableHlo.launchContents m' c))
  refine hv.trans ?_
  refine Eq.trans ?_ (Cert.GravNet.kernel_eq_ref _ _ _ _ _ (fun b v c => hx _) (fun o c => hw _) (fun o => hβ _)).symm
  rw [← h0, ← h1, ← h2, ← h3, ← h4]

/-- The certificate's claim. -/
theorem claim : Cert.Claim := ⟨Cert.Kernel.Gen.facts, Cert.KernelIdeal.Gen.facts, Cert.ReferenceIdeal.Gen.facts, Cert.Pre_finite_inputs.Gen.facts,
  frame_p, frame_pi, fun m ρ _ => frame_pi m ρ trivial, frame_ri, fun m ρ _ => frame_ri m ρ trivial, preserves, algebraic⟩

end Cert.Proof

end
